-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_decided_pre_finite [hKernelIdeal : Cert.KernelIdeal.Facts] [hReferenceIdeal : Cert.ReferenceIdeal.Facts] [hPre_finite : Cert.Pre_finite.Facts] [hOn_decided : Cert.On_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 1024, 64]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v5_0) i = v0 c i)
          ∧ (∀ i : (⟨0, ![]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v6) i = v1 c i)
          ∧ (∀ i : (⟨0, ![]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.KernelIdeal.nD Cert.KernelIdeal.τ).loc Cert.KernelIdeal.main_v7) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 1024, 64]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v69) i = v0 c i)
          ∧ (∀ i : (⟨0, ![]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v93) i = v1 c i)
          ∧ (∀ i : (⟨0, ![]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.ReferenceIdeal.nD Cert.ReferenceIdeal.τ).loc Cert.ReferenceIdeal.main_v79) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts) (hOn_decided : Cert.On_decided.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_decided_pre_finite (hKernelIdeal := hKernelIdeal) (hReferenceIdeal := hReferenceIdeal) (hPre_finite := hPre_finite) (hOn_decided := hOn_decided)
-- ==== On_decided.lean ====
abbrev S4x1024x64 : Shape := ⟨3, ![4, 1024, 64]⟩
abbrev S512x2x32 : Shape := ⟨3, ![512, 2, 32]⟩
abbrev S64x32x1 : Shape := ⟨3, ![64, 32, 1]⟩
abbrev S64 : Shape := ⟨1, ![64]⟩
abbrev S4x64x1024 : Shape := ⟨3, ![4, 64, 1024]⟩
abbrev S4x2x32x1024 : Shape := ⟨4, ![4, 2, 32, 1024]⟩
abbrev S64x32 : Shape := ⟨2, ![64, 32]⟩
abbrev S2x32x32 : Shape := ⟨3, ![2, 32, 32]⟩
abbrev S2x32x4x1024 : Shape := ⟨4, ![2, 32, 4, 1024]⟩
abbrev S_ : Shape := ⟨0, ![]⟩
abbrev S4x2 : Shape := ⟨2, ![4, 2]⟩
abbrev S4x2x1x1 : Shape := ⟨4, ![4, 2, 1, 1]⟩
abbrev S1x64x1 : Shape := ⟨3, ![1, 64, 1]⟩
abbrev S4x1024x2x32 : Shape := ⟨4, ![4, 1024, 2, 32]⟩
abbrev S1x4x1024x2x32 : Shape := ⟨5, ![1, 4, 1024, 2, 32]⟩
abbrev S512x1x1x2x32 : Shape := ⟨5, ![512, 1, 1, 2, 32]⟩
abbrev S512x4x1024x2x32 : Shape := ⟨5, ![512, 4, 1024, 2, 32]⟩
abbrev S512x4x1024x2 : Shape := ⟨4, ![512, 4, 1024, 2]⟩
abbrev S4x1024x2 : Shape := ⟨3, ![4, 1024, 2]⟩
abbrev S1x4x1024x2 : Shape := ⟨4, ![1, 4, 1024, 2]⟩
abbrev S4x1024x2x1 : Shape := ⟨4, ![4, 1024, 2, 1]⟩

class Facts : Prop where
  transposes_S4x1024x64_S4x64x1024_0_2_1 : S4x1024x64.Transposes [0, 2, 1] S4x64x1024
  shapeCasts_S4x64x1024_S4x2x32x1024 : S4x64x1024.ShapeCasts S4x2x32x1024
  shapeCasts_S64x32x1_S64x32 : S64x32x1.ShapeCasts S64x32
  shapeCasts_S64x32_S2x32x32 : S64x32.ShapeCasts S2x32x32
  transposes_S2x32x4x1024_S4x2x32x1024_2_0_1_3 : S2x32x4x1024.Transposes [2, 0, 1, 3] S4x2x32x1024
  reducesTo_S4x2x32x1024_S4x2_d2_3 : S4x2x32x1024.ReducesTo [2, 3] S4x2
  h_S_ : 0 < S_.numel
  bcast_S4x2_S4x2x1x1_0_1 : S4x2.BroadcastsInDim S4x2x1x1 (![0, 1] : Fin 2 → Fin S4x2x1x1.rank)
  bcast_S_S4x2x1x1 : S_.BroadcastsInDim S4x2x1x1 (![] : Fin 0 → Fin S4x2x1x1.rank)
  bcast_S4x2x1x1_S4x2x32x1024_0_1_2_3 : S4x2x1x1.BroadcastsInDim S4x2x32x1024 (![0, 1, 2, 3] : Fin 4 → Fin S4x2x32x1024.rank)
  shapeCasts_S4x2x32x1024_S4x64x1024 : S4x2x32x1024.ShapeCasts S4x64x1024
  bcast_S64_S1x64x1_1 : S64.BroadcastsInDim S1x64x1 (![1] : Fin 1 → Fin S1x64x1.rank)
  bcast_S1x64x1_S4x64x1024_0_1_2 : S1x64x1.BroadcastsInDim S4x64x1024 (![0, 1, 2] : Fin 3 → Fin S4x64x1024.rank)
  transposes_S4x2x32x1024_S4x1024x2x32_0_3_1_2 : S4x2x32x1024.Transposes [0, 3, 1, 2] S4x1024x2x32
  bcast_S4x1024x2x32_S1x4x1024x2x32_1_2_3_4 : S4x1024x2x32.BroadcastsInDim S1x4x1024x2x32 (![1, 2, 3, 4] : Fin 4 → Fin S1x4x1024x2x32.rank)
  bcast_S512x2x32_S512x1x1x2x32_0_3_4 : S512x2x32.BroadcastsInDim S512x1x1x2x32 (![0, 3, 4] : Fin 3 → Fin S512x1x1x2x32.rank)
  bcast_S1x4x1024x2x32_S512x4x1024x2x32_0_1_2_3_4 : S1x4x1024x2x32.BroadcastsInDim S512x4x1024x2x32 (![0, 1, 2, 3, 4] : Fin 5 → Fin S512x4x1024x2x32.rank)
  bcast_S512x1x1x2x32_S512x4x1024x2x32_0_1_2_3_4 : S512x1x1x2x32.BroadcastsInDim S512x4x1024x2x32 (![0, 1, 2, 3, 4] : Fin 5 → Fin S512x4x1024x2x32.rank)
  reducesTo_S512x4x1024x2x32_S512x4x1024x2_d4 : S512x4x1024x2x32.ReducesTo [4] S512x4x1024x2
  reducesTo_S512x4x1024x2_S4x1024x2_d0 : S512x4x1024x2.ReducesTo [0] S4x1024x2
  bcast_S4x1024x2_S1x4x1024x2_1_2_3 : S4x1024x2.BroadcastsInDim S1x4x1024x2 (![1, 2, 3] : Fin 3 → Fin S1x4x1024x2.rank)
  bcast_S1x4x1024x2_S512x4x1024x2_0_1_2_3 : S1x4x1024x2.BroadcastsInDim S512x4x1024x2 (![0, 1, 2, 3] : Fin 4 → Fin S512x4x1024x2.rank)
  bcast_S_S512x4x1024x2 : S_.BroadcastsInDim S512x4x1024x2 (![] : Fin 0 → Fin S512x4x1024x2.rank)
  bcast_S_S4x1024x2 : S_.BroadcastsInDim S4x1024x2 (![] : Fin 0 → Fin S4x1024x2.rank)
  bcast_S4x1024x2_S4x1024x2x1_0_1_2 : S4x1024x2.BroadcastsInDim S4x1024x2x1 (![0, 1, 2] : Fin 3 → Fin S4x1024x2x1.rank)
  bcast_S4x1024x2x1_S4x1024x2x32_0_1_2_3 : S4x1024x2x1.BroadcastsInDim S4x1024x2x32 (![0, 1, 2, 3] : Fin 4 → Fin S4x1024x2x32.rank)
  shapeCasts_S4x1024x2x32_S4x1024x64 : S4x1024x2x32.ShapeCasts S4x1024x64
  reducesTo_S4x1024x2_S_d0_1_2 : S4x1024x2.ReducesTo [0, 1, 2] S_
  dot_S2x32x32_S4x2x32x1024_S2x32x4x1024_2_2_1_03_0_1_wf : DotDims.WF S2x32x32 S4x2x32x1024 S2x32x4x1024 [2] [2] [1] [0, 3] [0] [1]

variable [Facts]

variable {F : FTy → Type} [FloatOps F]
def dot_S2x32x32_S4x2x32x1024_S2x32x4x1024_2_2_1_03_0_1 : DotDims S2x32x32 S4x2x32x1024 S2x32x4x1024 where
  lhsContracting := [2]
  rhsContracting := [2]
  lhsNonContracting := [1]
  rhsNonContracting := [0, 3]
  lhsBatch := [0]
  rhsBatch := [1]
  wf := dot_S2x32x32_S4x2x32x1024_S2x32x4x1024_2_2_1_03_0_1_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_where {F : FTy → Type} [FloatOps F] (arg0 : IVec S_ 1) (arg1 : FVec F S4x2x1x1 .f32) (arg2 : FVec F S_ .f32) : FVec F S4x2x1x1 .f32 :=
  let v0 : FVec F S_ .f32 := id arg2
  let v1 : FVec F S4x2x1x1 .f32 := broadcastInDim S4x2x1x1 ![] bcast_S_S4x2x1x1 v0
  let v2 : FVec F S4x2x1x1 .f32 := (fun p a b => select (broadcastInDim S4x2x1x1 ![] bcast_S_S4x2x1x1 p) a b) arg0 arg1 v1
  v2

def fn_var {F : FTy → Type} [FloatOps F] (arg0 : FVec F S4x2x32x1024 .f32) (arg1 : IVec S_ 32) : FVec F S4x2x1x1 .f32 :=
  let cst : FVec F S_ .f32 := constant S_ .f32 0x00000000#32
  let v0 : FVec F S4x2 .f32 := (fun x v => Host.reduceAdd x v reducesTo_S4x2x32x1024_S4x2_d2_3 h_S_) arg0 cst
  let v1 : FVec F S4x2x1x1 .f32 := broadcastInDim S4x2x1x1 ![0, 1] bcast_S4x2_S4x2x1x1_0_1 v0
  let cst_0 : FVec F S_ .f32 := constant S_ .f32 0x47000000#32
  let v2 : FVec F S4x2x1x1 .f32 := broadcastInDim S4x2x1x1 ![] bcast_S_S4x2x1x1 cst_0
  let v3 : FVec F S4x2x1x1 .f32 := Host.divf v1 v2
  let v4 : FVec F S4x2x32x1024 .f32 := broadcastInDim S4x2x32x1024 ![0, 1, 2, 3] bcast_S4x2x1x1_S4x2x32x1024_0_1_2_3 v3
  let v5 : FVec F S4x2x32x1024 .f32 := subf arg0 v4
  let v6 : FVec F S4x2x32x1024 .f32 := mulf v5 v5
  let v7 : FVec F S_ .f32 := sitofp .f32 arg1
  let cst_1 : FVec F S_ .f32 := constant S_ .f32 0x47000000#32
  let v8 : FVec F S_ .f32 := subf cst_1 v7
  let cst_2 : FVec F S_ .f32 := constant S_ .f32 0x00000000#32
  let v9 : FVec F S4x2 .f32 := (fun x v => Host.reduceAdd x v reducesTo_S4x2x32x1024_S4x2_d2_3 h_S_) v6 cst_2
  let v10 : FVec F S4x2x1x1 .f32 := broadcastInDim S4x2x1x1 ![0, 1] bcast_S4x2_S4x2x1x1_0_1 v9
  let v11 : FVec F S4x2x1x1 .f32 := broadcastInDim S4x2x1x1 ![] bcast_S_S4x2x1x1 v8
  let v12 : FVec F S4x2x1x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S4x2x1x1 .f32 := fn_where (F := F) v13 v12 cst_4
  v14

def fn_argmin {F : FTy → Type} [FloatOps F] (arg0 : FVec F S512x4x1024x2 .f32) : IVec S4x1024x2 32 :=
  let v0 : IVec S512x4x1024x2 32 := iotaInDim S512x4x1024x2 32 0
  let cst : FVec F S_ .f32 := constant S_ .f32 0x7F800000#32
  let c : IVec S_ 32 := constantI S_ 32 0#32
  let v1_0 : FVec F S4x1024x2 .f32 := (fun x y u v j => (Host.argReduce reducer_argmin_f32_i32 x y u v reducesTo_S512x4x1024x2_S4x1024x2_d0 h_S_ j).1) arg0 v0 cst c
  let v1_1 : IVec S4x1024x2 32 := (fun x y u v j => (Host.argReduce reducer_argmin_f32_i32 x y u v reducesTo_S512x4x1024x2_S4x1024x2_d0 h_S_ j).2) arg0 v0 cst c
  v1_1

def fn_where_0 {F : FTy → Type} [FloatOps F] (arg0 : IVec S512x4x1024x2 1) (arg1 : FVec F S_ .f32) (arg2 : FVec F S512x4x1024x2 .f32) : FVec F S512x4x1024x2 .f32 :=
  let v0 : FVec F S_ .f32 := id arg1
  let v1 : FVec F S512x4x1024x2 .f32 := broadcastInDim S512x4x1024x2 ![] bcast_S_S512x4x1024x2 v0
  let v2 : FVec F S512x4x1024x2 .f32 := select arg0 v1 arg2
  v2

def fn_part2 {F : FTy → Type} [FloatOps F] (main_v33 : FVec F S512x4x1024x2 .f32) (main_v40 : FVec F S4x1024x2 .f32) : IVec S4x1024x64 1 × IVec S_ 1 × IVec S_ 1 :=
  let main_cst_5 : FVec F S_ .f32 := constant S_ .f32 0x7F800000#32
  let main_v41 : FVec F S4x1024x2 .f32 := (fun x v => Host.reduce FloatOps.minimumf x v reducesTo_S512x4x1024x2_S4x1024x2_d0 h_S_) main_v33 main_cst_5
  let main_v42 : FVec F S4x1024x2 .f32 := subf main_v40 main_v41
  let main_cst_6 : FVec F S_ .f32 := constant S_ .f32 0x47F42400#32
  let main_v43 : FVec F S4x1024x2 .f32 := broadcastInDim S4x1024x2 ![] bcast_S_S4x1024x2 main_cst_6
  let main_v44 : FVec F S4x1024x2 .f32 := mulf main_v42 main_v43
  let main_cst_7 : FVec F S_ .f32 := constant S_ .f32 0x3F800000#32
  let main_v45 : FVec F S4x1024x2 .f32 := broadcastInDim S4x1024x2 ![] bcast_S_S4x1024x2 main_cst_7
  let main_v46 : IVec S4x1024x2 1 := cmpf .oge main_v44 main_v45
  let main_v47 : IVec S4x1024x2x1 1 := broadcastInDim S4x1024x2x1 ![0, 1, 2] bcast_S4x1024x2_S4x1024x2x1_0_1_2 main_v46
  let main_v48 : IVec S4x1024x2x32 1 := broadcastInDim S4x1024x2x32 ![0, 1, 2, 3] bcast_S4x1024x2x1_S4x1024x2x32_0_1_2_3 main_v47
  let main_v49 : IVec S4x1024x64 1 := shapeCast S4x1024x64 main_v48 shapeCasts_S4x1024x2x32_S4x1024x64
  let main_cst_8 : FVec F S_ .f32 := constant S_ .f32 0x7F800000#32
  let main_v50 : FVec F S_ .f32 := (fun x v => Host.reduce FloatOps.minimumf x v reducesTo_S4x1024x2_S_d0_1_2 h_S_) main_v42 main_cst_8
  let main_cst_9 : FVec F S_ .f32 := constant S_ .f32 0x47F42400#32
  let main_v51 : FVec F S_ .f32 := mulf main_v50 main_cst_9
  let main_cst_10 : FVec F S_ .f32 := constant S_ .f32 0x3F800000#32
  let main_v52 : IVec S_ 1 := cmpf .oge main_v51 main_cst_10
  let main_c_11 : IVec S_ 1 := constantI S_ 1 1#1
  (main_v49, main_c_11, main_v52)

def fn_part1 {F : FTy → Type} [FloatOps F] (main_arg1 : FVec F S512x2x32 .f32) (main_arg4 : FVec F S64 .f32) (main_v18 : FVec F S4x64x1024 .f32) (main_v19 : FVec F S1x64x1 .f32) : IVec S4x1024x64 1 × IVec S_ 1 × IVec S_ 1 :=
  let main_v20 : FVec F S4x64x1024 .f32 := broadcastInDim S4x64x1024 ![0, 1, 2] bcast_S1x64x1_S4x64x1024_0_1_2 main_v19
  let main_v21 : FVec F S4x64x1024 .f32 := mulf main_v18 main_v20
  let main_v22 : FVec F S1x64x1 .f32 := broadcastInDim S1x64x1 ![1] bcast_S64_S1x64x1_1 main_arg4
  let main_v23 : FVec F S4x64x1024 .f32 := broadcastInDim S4x64x1024 ![0, 1, 2] bcast_S1x64x1_S4x64x1024_0_1_2 main_v22
  let main_v24 : FVec F S4x64x1024 .f32 := addf main_v21 main_v23
  let main_v25 : FVec F S4x2x32x1024 .f32 := shapeCast S4x2x32x1024 main_v24 shapeCasts_S4x64x1024_S4x2x32x1024
  let main_v26 : FVec F S4x1024x2x32 .f32 := (transpose S4x1024x2x32 [0, 3, 1, 2] · transposes_S4x2x32x1024_S4x1024x2x32_0_3_1_2) main_v25
  let main_v27 : FVec F S1x4x1024x2x32 .f32 := broadcastInDim S1x4x1024x2x32 ![1, 2, 3, 4] bcast_S4x1024x2x32_S1x4x1024x2x32_1_2_3_4 main_v26
  let main_v28 : FVec F S512x1x1x2x32 .f32 := broadcastInDim S512x1x1x2x32 ![0, 3, 4] bcast_S512x2x32_S512x1x1x2x32_0_3_4 main_arg1
  let main_v29 : FVec F S512x4x1024x2x32 .f32 := broadcastInDim S512x4x1024x2x32 ![0, 1, 2, 3, 4] bcast_S1x4x1024x2x32_S512x4x1024x2x32_0_1_2_3_4 main_v27
  let main_v30 : FVec F S512x4x1024x2x32 .f32 := broadcastInDim S512x4x1024x2x32 ![0, 1, 2, 3, 4] bcast_S512x1x1x2x32_S512x4x1024x2x32_0_1_2_3_4 main_v28
  let main_v31 : FVec F S512x4x1024x2x32 .f32 := subf main_v29 main_v30
  let main_v32 : FVec F S512x4x1024x2x32 .f32 := mulf main_v31 main_v31
  let main_cst_2 : FVec F S_ .f32 := constant S_ .f32 0x00000000#32
  let main_v33 : FVec F S512x4x1024x2 .f32 := (fun x v => Host.reduceAdd x v reducesTo_S512x4x1024x2x32_S512x4x1024x2_d4 h_S_) main_v32 main_cst_2
  let main_v34 : IVec S512x4x1024x2 32 := iotaInDim S512x4x1024x2 32 0
  let main_v35 : IVec S4x1024x2 32 := fn_argmin (F := F) main_v33
  let main_v36 : IVec S1x4x1024x2 32 := broadcastInDim S1x4x1024x2 ![1, 2, 3] bcast_S4x1024x2_S1x4x1024x2_1_2_3 main_v35
  let main_v37 : IVec S512x4x1024x2 32 := broadcastInDim S512x4x1024x2 ![0, 1, 2, 3] bcast_S1x4x1024x2_S512x4x1024x2_0_1_2_3 main_v36
  let main_v38 : IVec S512x4x1024x2 1 := cmpi .eq main_v34 main_v37
  let main_cst_3 : FVec F S_ .f32 := constant S_ .f32 0x7F800000#32
  let main_v39 : FVec F S512x4x1024x2 .f32 := fn_where_0 (F := F) main_v38 main_cst_3 main_v33
  let main_cst_4 : FVec F S_ .f32 := constant S_ .f32 0x7F800000#32
  let main_v40 : FVec F S4x1024x2 .f32 := (fun x v => Host.reduce FloatOps.minimumf x v reducesTo_S512x4x1024x2_S4x1024x2_d0 h_S_) main_v39 main_cst_4
  fn_part2 (F := F) main_v33 main_v40

def fn {F : FTy → Type} [FloatOps F] (main_arg0 : FVec F S4x1024x64 .f32) (main_arg1 : FVec F S512x2x32 .f32) (main_arg2 : FVec F S64x32x1 .f32) (main_arg3 : FVec F S64 .f32) (main_arg4 : FVec F S64 .f32) : IVec S4x1024x64 1 × IVec S_ 1 × IVec S_ 1 :=
  let main_v0 : FVec F S4x64x1024 .f32 := (transpose S4x64x1024 [0, 2, 1] · transposes_S4x1024x64_S4x64x1024_0_2_1) main_arg0
  let main_v1 : FVec F S4x2x32x1024 .f32 := shapeCast S4x2x32x1024 main_v0 shapeCasts_S4x64x1024_S4x2x32x1024
  let main_v2 : FVec F S64x32 .f32 := shapeCast S64x32 main_arg2 shapeCasts_S64x32x1_S64x32
  let main_v3 : FVec F S2x32x32 .f32 := shapeCast S2x32x32 main_v2 shapeCasts_S64x32_S2x32x32
  let main_v4 : FVec F S2x32x4x1024 .f32 := (fun l r => Host.dotGeneral dot_S2x32x32_S4x2x32x1024_S2x32x4x1024_2_2_1_03_0_1 none l r) main_v3 main_v1
  let main_v5 : FVec F S4x2x32x1024 .f32 := (transpose S4x2x32x1024 [2, 0, 1, 3] · transposes_S2x32x4x1024_S4x2x32x1024_2_0_1_3) main_v4
  let main_cst : FVec F S_ .f32 := constant S_ .f32 0x00000000#32
  let main_v6 : FVec F S4x2 .f32 := (fun x v => Host.reduceAdd x v reducesTo_S4x2x32x1024_S4x2_d2_3 h_S_) main_v5 main_cst
  let main_v7 : FVec F S4x2x1x1 .f32 := broadcastInDim S4x2x1x1 ![0, 1] bcast_S4x2_S4x2x1x1_0_1 main_v6
  let main_cst_0 : FVec F S_ .f32 := constant S_ .f32 0x47000000#32
  let main_v8 : FVec F S4x2x1x1 .f32 := broadcastInDim S4x2x1x1 ![] bcast_S_S4x2x1x1 main_cst_0
  let main_v9 : FVec F S4x2x1x1 .f32 := Host.divf main_v7 main_v8
  let main_c : IVec S_ 32 := constantI S_ 32 0#32
  let main_v10 : FVec F S4x2x1x1 .f32 := fn_var (F := F) main_v5 main_c
  let main_v11 : FVec F S4x2x32x1024 .f32 := broadcastInDim S4x2x32x1024 ![0, 1, 2, 3] bcast_S4x2x1x1_S4x2x32x1024_0_1_2_3 main_v9
  let main_v12 : FVec F S4x2x32x1024 .f32 := subf main_v5 main_v11
  let main_cst_1 : FVec F S_ .f32 := constant S_ .f32 0x3727C5AC#32
  let main_v13 : FVec F S4x2x1x1 .f32 := broadcastInDim S4x2x1x1 ![] bcast_S_S4x2x1x1 main_cst_1
  let main_v14 : FVec F S4x2x1x1 .f32 := addf main_v10 main_v13
  let main_v15 : FVec F S4x2x1x1 .f32 := Host.sqrt main_v14
  let main_v16 : FVec F S4x2x32x1024 .f32 := broadcastInDim S4x2x32x1024 ![0, 1, 2, 3] bcast_S4x2x1x1_S4x2x32x1024_0_1_2_3 main_v15
  let main_v17 : FVec F S4x2x32x1024 .f32 := Host.divf main_v12 main_v16
  let main_v18 : FVec F S4x64x1024 .f32 := shapeCast S4x64x1024 main_v17 shapeCasts_S4x2x32x1024_S4x64x1024
  let main_v19 : FVec F S1x64x1 .f32 := broadcastInDim S1x64x1 ![1] bcast_S64_S1x64x1_1 main_arg3
  fn_part1 (F := F) main_arg1 main_arg4 main_v18 main_v19
-- ==== Pre_finite.lean ====
abbrev S4x1024x64 : Shape := ⟨3, ![4, 1024, 64]⟩
abbrev S512x2x32 : Shape := ⟨3, ![512, 2, 32]⟩
abbrev S64x32x1 : Shape := ⟨3, ![64, 32, 1]⟩
abbrev S64 : Shape := ⟨1, ![64]⟩
abbrev S_ : Shape := ⟨0, ![]⟩

class Facts : Prop where
  bcast_S_S4x1024x64 : S_.BroadcastsInDim S4x1024x64 (![] : Fin 0 → Fin S4x1024x64.rank)
  bcast_S_S512x2x32 : S_.BroadcastsInDim S512x2x32 (![] : Fin 0 → Fin S512x2x32.rank)
  bcast_S_S64x32x1 : S_.BroadcastsInDim S64x32x1 (![] : Fin 0 → Fin S64x32x1.rank)
  bcast_S_S64 : S_.BroadcastsInDim S64 (![] : Fin 0 → Fin S64.rank)

variable [Facts]

def fn {F : FTy → Type} [FloatOps F] (main_arg0 : FVec F S4x1024x64 .f32) (main_arg1 : FVec F S512x2x32 .f32) (main_arg2 : FVec F S64x32x1 .f32) (main_arg3 : FVec F S64 .f32) (main_arg4 : FVec F S64 .f32) : IVec S4x1024x64 1 × IVec S512x2x32 1 × IVec S64x32x1 1 × IVec S64 1 × IVec S64 1 :=
  let main_v0 : FVec F S4x1024x64 .f32 := Host.absf main_arg0
  let main_cst : FVec F S_ .f32 := constant S_ .f32 0x7F800000#32
  let main_v1 : FVec F S4x1024x64 .f32 := broadcastInDim S4x1024x64 ![] bcast_S_S4x1024x64 main_cst
  let main_v2 : IVec S4x1024x64 1 := cmpf .olt main_v0 main_v1
  let main_v3 : FVec F S512x2x32 .f32 := Host.absf main_arg1
  let main_cst_0 : FVec F S_ .f32 := constant S_ .f32 0x7F800000#32
  let main_v4 : FVec F S512x2x32 .f32 := broadcastInDim S512x2x32 ![] bcast_S_S512x2x32 main_cst_0
  let main_v5 : IVec S512x2x32 1 := cmpf .olt main_v3 main_v4
  let main_v6 : FVec F S64x32x1 .f32 := Host.absf main_arg2
  let main_cst_1 : FVec F S_ .f32 := constant S_ .f32 0x7F800000#32
  let main_v7 : FVec F S64x32x1 .f32 := broadcastInDim S64x32x1 ![] bcast_S_S64x32x1 main_cst_1
  let main_v8 : IVec S64x32x1 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== Kernel.lean ====
abbrev S4x1024x64 : Shape := ⟨3, ![4, 1024, 64]⟩
abbrev S512x2x32 : Shape := ⟨3, ![512, 2, 32]⟩
abbrev S64x32x1 : Shape := ⟨3, ![64, 32, 1]⟩
abbrev S64 : Shape := ⟨1, ![64]⟩
abbrev S2x512x32 : Shape := ⟨3, ![2, 512, 32]⟩
abbrev S64x32 : Shape := ⟨2, ![64, 32]⟩
abbrev S2x32x32 : Shape := ⟨3, ![2, 32, 32]⟩
abbrev S2x1x32 : Shape := ⟨3, ![2, 1, 32]⟩
abbrev S1x1 : Shape := ⟨2, ![1, 1]⟩
abbrev S1x512x32 : Shape := ⟨3, ![1, 512, 32]⟩
abbrev S512x32 : Shape := ⟨2, ![512, 32]⟩
abbrev S512 : Shape := ⟨1, ![512]⟩
abbrev S512x1 : Shape := ⟨2, ![512, 1]⟩
abbrev S1x32x32 : Shape := ⟨3, ![1, 32, 32]⟩
abbrev S32x32 : Shape := ⟨2, ![32, 32]⟩
abbrev S1x1024x32 : Shape := ⟨3, ![1, 1024, 32]⟩
abbrev S1024x32 : Shape := ⟨2, ![1024, 32]⟩
abbrev S1 : Shape := ⟨1, ![1]⟩
abbrev S1x1x1 : Shape := ⟨3, ![1, 1, 1]⟩
abbrev S1x1x32 : Shape := ⟨3, ![1, 1, 32]⟩
abbrev S1x32 : Shape := ⟨2, ![1, 32]⟩
abbrev S512x1024 : Shape := ⟨2, ![512, 1024]⟩
abbrev S1024 : Shape := ⟨1, ![1024]⟩
abbrev S1x1024 : Shape := ⟨2, ![1, 1024]⟩
abbrev S1024x64 : Shape := ⟨2, ![1024, 64]⟩
abbrev S1x1024x64 : Shape := ⟨3, ![1, 1024, 64]⟩
abbrev S1x512x1 : Shape := ⟨3, ![1, 512, 1]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S4x1024x64, .f32⟩
  | .hbm, ⟨1, _⟩ => ⟨S512x2x32, .f32⟩
  | .hbm, ⟨2, _⟩ => ⟨S64x32x1, .f32⟩
  | .hbm, ⟨3, _⟩ => ⟨S64, .f32⟩
  | .hbm, ⟨4, _⟩ => ⟨S64, .f32⟩
  | .hbm, ⟨5, _⟩ => ⟨S2x512x32, .f32⟩
  | .hbm, ⟨6, _⟩ => ⟨S64x32, .f32⟩
  | .hbm, ⟨7, _⟩ => ⟨S2x32x32, .f32⟩
  | .hbm, ⟨8, _⟩ => ⟨S2x1x32, .f32⟩
  | .hbm, ⟨9, _⟩ => ⟨S2x1x32, .f32⟩
  | .hbm, ⟨10, _⟩ => ⟨S4x1024x64, .f32⟩
  | .hbm, ⟨11, _⟩ => ⟨S1x1, .f32⟩
  | .hbm, ⟨12, _⟩ => ⟨S1x1, .f32⟩
  | .hbm, ⟨13, _⟩ => ⟨S_, .f32⟩
  | .hbm, ⟨14, _⟩ => ⟨S_, .f32⟩
  | .local _ .vmem, ⟨0, _⟩ => ⟨S4x1024x64, .f32⟩
  | .local _ .vmem, ⟨1, _⟩ => ⟨S2x512x32, .f32⟩
  | .local _ .vmem, ⟨2, _⟩ => ⟨S2x32x32, .f32⟩
  | .local _ .vmem, ⟨3, _⟩ => ⟨S2x1x32, .f32⟩
  | .local _ .vmem, ⟨4, _⟩ => ⟨S2x1x32, .f32⟩
  | .local _ .vmem, ⟨5, _⟩ => ⟨S4x1024x64, .f32⟩
  | .local _ .vmem, ⟨6, _⟩ => ⟨S1x1, .f32⟩
  | .local _ .vmem, ⟨7, _⟩ => ⟨S1x1, .f32⟩
  | _, _ => ⟨S4x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4x1024x64 : Shape := ⟨3, ![4, 1024, 64]⟩
abbrev S512x2x32 : Shape := ⟨3, ![512, 2, 32]⟩
abbrev S64x32x1 : Shape := ⟨3, ![64, 32, 1]⟩
abbrev S64 : Shape := ⟨1, ![64]⟩
abbrev S4x64x1024 : Shape := ⟨3, ![4, 64, 1024]⟩
abbrev S4x2x32x1024 : Shape := ⟨4, ![4, 2, 32, 1024]⟩
abbrev S64x32 : Shape := ⟨2, ![64, 32]⟩
abbrev S2x32x32 : Shape := ⟨3, ![2, 32, 32]⟩
abbrev S2x32x4x1024 : Shape := ⟨4, ![2, 32, 4, 1024]⟩
abbrev S_ : Shape := ⟨0, ![]⟩
abbrev S4x2 : Shape := ⟨2, ![4, 2]⟩
abbrev S4x2x1x1 : Shape := ⟨4, ![4, 2, 1, 1]⟩
abbrev S1x64x1 : Shape := ⟨3, ![1, 64, 1]⟩
abbrev S4x1024x2x32 : Shape := ⟨4, ![4, 1024, 2, 32]⟩
abbrev S1x4x1024x2x32 : Shape := ⟨5, ![1, 4, 1024, 2, 32]⟩
abbrev S512x1x1x2x32 : Shape := ⟨5, ![512, 1, 1, 2, 32]⟩
abbrev S512x4x1024x2x32 : Shape := ⟨5, ![512, 4, 1024, 2, 32]⟩
abbrev S512x4x1024x2 : Shape := ⟨4, ![512, 4, 1024, 2]⟩
abbrev S4x1024x2 : Shape := ⟨3, ![4, 1024, 2]⟩
abbrev S4x1024x1 : Shape := ⟨3, ![4, 1024, 1]⟩
abbrev S4x1024 : Shape := ⟨2, ![4, 1024]⟩
abbrev S4x1024x32 : Shape := ⟨3, ![4, 1024, 32]⟩
abbrev S4x1024x1x32 : Shape := ⟨4, ![4, 1024, 1, 32]⟩
abbrev S8192 : Shape := ⟨1, ![8192]⟩
abbrev S8192x1 : Shape := ⟨2, ![8192, 1]⟩
abbrev S1x512 : Shape := ⟨2, ![1, 512]⟩
abbrev S8192x512 : Shape := ⟨2, ![8192, 512]⟩
abbrev S4096x2x512 : Shape := ⟨3, ![4096, 2, 512]⟩
abbrev S2x512 : Shape := ⟨2, ![2, 512]⟩
abbrev S2 : Shape := ⟨1, ![2]⟩

abbrev nBuf : Space → Nat
  | .hbm => 151
  | .vmem => 0
  | .smem => 0
  | _ => 0

abbrev hbmTy0_0 (i : Nat) : BufTy := match i % 128 with
  | 0 => ⟨S4x1024x64, .f32⟩
  | 1 => ⟨S512x2x32, .f32⟩
  | 2 => ⟨S64x32x1, .f32⟩
  | 3 => ⟨S64, .f32⟩
  | 4 => ⟨S64, .f32⟩
  | 5 => ⟨S4x64x1024, .f32⟩
  | 6 => ⟨S4x2x32x1024, .f32⟩
  | 7 => ⟨S64x32, .f32⟩
  | 8 => ⟨S2x32x32, .f32⟩
  | 9 => ⟨S2x32x4x1024, .f32⟩
  | 10 => ⟨S4x2x32x1024, .f32⟩
  | 11 => ⟨S_, .f32⟩
  | 12 => ⟨S4x2, .f32⟩
  | 13 => ⟨S4x2x1x1, .f32⟩
  | 14 => ⟨S_, .f32⟩
  | 15 => ⟨S4x2x1x1, .f32⟩
  | 16 => ⟨S4x2x1x1, .f32⟩
  | 17 => ⟨S_, .i32⟩
  | 18 => ⟨S_, .f32⟩
  | 19 => ⟨S4x2, .f32⟩
  | 20 => ⟨S4x2x1x1, .f32⟩
  | 21 => ⟨S_, .f32⟩
  | 22 => ⟨S4x2x1x1, .f32⟩
  | 23 => ⟨S4x2x1x1, .f32⟩
  | 24 => ⟨S4x2x32x1024, .f32⟩
  | 25 => ⟨S4x2x32x1024, .f32⟩
  | 26 => ⟨S4x2x32x1024, .f32⟩
  | 27 => ⟨S_, .f32⟩
  | 28 => ⟨S_, .f32⟩
  | 29 => ⟨S_, .f32⟩
  | 30 => ⟨S_, .f32⟩
  | 31 => ⟨S4x2, .f32⟩
  | 32 => ⟨S4x2x1x1, .f32⟩
  | 33 => ⟨S4x2x1x1, .f32⟩
  | 34 => ⟨S4x2x1x1, .f32⟩
  | 35 => ⟨S_, .f32⟩
  | 36 => ⟨S_, .i1⟩
  | 37 => ⟨S_, .f32⟩
  | 38 => ⟨S_, .f32⟩
  | 39 => ⟨S4x2x1x1, .f32⟩
  | 40 => ⟨S4x2x1x1, .f32⟩
  | 41 => ⟨S4x2x32x1024, .f32⟩
  | 42 => ⟨S4x2x32x1024, .f32⟩
  | 43 => ⟨S_, .f32⟩
  | 44 => ⟨S4x2x1x1, .f32⟩
  | 45 => ⟨S4x2x1x1, .f32⟩
  | 46 => ⟨S4x2x1x1, .f32⟩
  | 47 => ⟨S4x2x32x1024, .f32⟩
  | 48 => ⟨S4x2x32x1024, .f32⟩
  | 49 => ⟨S4x64x1024, .f32⟩
  | 50 => ⟨S1x64x1, .f32⟩
  | 51 => ⟨S4x64x1024, .f32⟩
  | 52 => ⟨S4x64x1024, .f32⟩
  | 53 => ⟨S1x64x1, .f32⟩
  | 54 => ⟨S4x64x1024, .f32⟩
  | 55 => ⟨S4x64x1024, .f32⟩
  | 56 => ⟨S4x2x32x1024, .f32⟩
  | 57 => ⟨S4x1024x2x32, .f32⟩
  | 58 => ⟨S1x4x1024x2x32, .f32⟩
  | 59 => ⟨S512x1x1x2x32, .f32⟩
  | 60 => ⟨S512x4x1024x2x32, .f32⟩
  | 61 => ⟨S512x4x1024x2x32, .f32⟩
  | 62 => ⟨S512x4x1024x2x32, .f32⟩
  | 63 => ⟨S512x4x1024x2x32, .f32⟩
  | 64 => ⟨S_, .f32⟩
  | 65 => ⟨S512x4x1024x2, .f32⟩
  | 66 => ⟨S512x4x1024x2, .f32⟩
  | 67 => ⟨S512x4x1024x2, .i32⟩
  | 68 => ⟨S_, .f32⟩
  | 69 => ⟨S_, .i32⟩
  | 70 => ⟨S4x1024x2, .f32⟩
  | 71 => ⟨S4x1024x2, .i32⟩
  | 72 => ⟨S4x1024x1, .i32⟩
  | 73 => ⟨S4x1024, .i32⟩
  | 74 => ⟨S_, .i32⟩
  | 75 => ⟨S4x1024, .i32⟩
  | 76 => ⟨S4x1024, .i1⟩
  | 77 => ⟨S_, .i32⟩
  | 78 => ⟨S4x1024, .i32⟩
  | 79 => ⟨S4x1024, .i32⟩
  | 80 => ⟨S4x1024, .i32⟩
  | 81 => ⟨S_, .i32⟩
  | 82 => ⟨S4x1024, .i32⟩
  | 83 => ⟨S4x1024, .i32⟩
  | 84 => ⟨S4x1024x1, .i32⟩
  | 85 => ⟨S4x1024x1, .i32⟩
  | 86 => ⟨S4x1024x2, .i32⟩
  | 87 => ⟨S4x1024x32, .f32⟩
  | 88 => ⟨S4x1024x1, .i32⟩
  | 89 => ⟨S4x1024, .i32⟩
  | 90 => ⟨S_, .i32⟩
  | 91 => ⟨S4x1024, .i32⟩
  | 92 => ⟨S4x1024, .i1⟩
  | 93 => ⟨S_, .i32⟩
  | 94 => ⟨S4x1024, .i32⟩
  | 95 => ⟨S4x1024, .i32⟩
  | 96 => ⟨S4x1024, .i32⟩
  | 97 => ⟨S_, .i32⟩
  | 98 => ⟨S4x1024, .i32⟩
  | 99 => ⟨S4x1024, .i32⟩
  | 100 => ⟨S4x1024x1, .i32⟩
  | 101 => ⟨S4x1024x1, .i32⟩
  | 102 => ⟨S4x1024x2, .i32⟩
  | 103 => ⟨S4x1024x32, .f32⟩
  | 104 => ⟨S4x1024x1x32, .f32⟩
  | 105 => ⟨S4x1024x1x32, .f32⟩
  | 106 => ⟨S4x1024x2x32, .f32⟩
  | 107 => ⟨S4x1024x64, .f32⟩
  | 108 => ⟨S4x64x1024, .f32⟩
  | 109 => ⟨S4x64x1024, .f32⟩
  | 110 => ⟨S4x64x1024, .f32⟩
  | 111 => ⟨S4x1024x64, .f32⟩
  | 112 => ⟨S4x64x1024, .f32⟩
  | 113 => ⟨S4x64x1024, .f32⟩
  | 114 => ⟨S_, .f32⟩
  | 115 => ⟨S_, .f32⟩
  | 116 => ⟨S_, .f32⟩
  | 117 => ⟨S_, .f32⟩
  | 118 => ⟨S4x64x1024, .f32⟩
  | 119 => ⟨S4x64x1024, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S8192, .i32⟩
  | _ => ⟨S4x1024x64, .f32⟩

abbrev hbmTy0_1 (i : Nat) : BufTy := match i % 128 with
  | 0 => ⟨S8192x1, .i32⟩
  | 1 => ⟨S1x512, .i32⟩
  | 2 => ⟨S8192x512, .i32⟩
  | 3 => ⟨S8192x512, .i32⟩
  | 4 => ⟨S8192x512, .i1⟩
  | 5 => ⟨S8192x512, .f32⟩
  | 6 => ⟨S4096x2x512, .f32⟩
  | 7 => ⟨S_, .f32⟩
  | 8 => ⟨S2x512, .f32⟩
  | 9 => ⟨S_, .f32⟩
  | 10 => ⟨S2x512, .f32⟩
  | 11 => ⟨S2x512, .f32⟩
  | 12 => ⟨S_, .f32⟩
  | 13 => ⟨S2x512, .f32⟩
  | 14 => ⟨S2x512, .f32⟩
  | 15 => ⟨S2x512, .f32⟩
  | 16 => ⟨S2x512, .f32⟩
  | 17 => ⟨S_, .f32⟩
  | 18 => ⟨S2, .f32⟩
  | 19 => ⟨S2, .f32⟩
  | 20 => ⟨S2, .f32⟩
  | 21 => ⟨S_, .f32⟩
  | 22 => ⟨S_, .f32⟩
  | _ => ⟨S4x1024x64, .f32⟩

abbrev hbmTy (i : Nat) : BufTy := match i / 128 with
  | 0 => hbmTy0_0 i
  | 1 => hbmTy0_1 i
  | _ => ⟨S4x1024x64, .f32⟩

abbrev bufTy : (tb : Table) → Fin (tcTables nBuf tb) → BufTy
  | .hbm, ⟨i, _⟩ => hbmTy i
  | _, _ => ⟨S4x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_1 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_2 : Ref sig .tc := ⟨.hbm, 64, rfl⟩
abbrev main_v33 : Ref sig .tc := ⟨.hbm, 65, rfl⟩
abbrev main_v34 : Ref sig .tc := ⟨.hbm, 66, rfl⟩
abbrev main_call1_v0 : Ref sig .tc := ⟨.hbm, 67, rfl⟩
abbrev main_call1_cst : Ref sig .tc := ⟨.hbm, 68, rfl⟩
abbrev main_call1_c : Ref sig .tc := ⟨.hbm, 69, rfl⟩
abbrev main_call1_v1_0 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_c_3 : Ref sig .tc := ⟨.hbm, 74, rfl⟩
abbrev main_v38 : Ref sig .tc := ⟨.hbm, 75, rfl⟩
abbrev main_v39 : Ref sig .tc := ⟨.hbm, 76, rfl⟩
abbrev main_c_4 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_5 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_c_6 : Ref sig .tc := ⟨.hbm, 90, rfl⟩
abbrev main_v51 : Ref sig .tc := ⟨.hbm, 91, rfl⟩
abbrev main_v52 : Ref sig .tc := ⟨.hbm, 92, rfl⟩
abbrev main_c_7 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_c_8 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_9 : Ref sig .tc := ⟨.hbm, 114, rfl⟩
abbrev main_v72 : Ref sig .tc := ⟨.hbm, 115, rfl⟩
abbrev main_cst_10 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_11 : Ref sig .tc := ⟨.hbm, 120, rfl⟩
abbrev main_v76 : Ref sig .tc := ⟨.hbm, 121, rfl⟩
abbrev main_cst_12 : Ref sig .tc := ⟨.hbm, 122, rfl⟩
abbrev main_v77 : Ref sig .tc := ⟨.hbm, 123, rfl⟩
abbrev main_cst_13 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_v81 : Ref sig .tc := ⟨.hbm, 133, rfl⟩
abbrev main_v82 : Ref sig .tc := ⟨.hbm, 134, rfl⟩
abbrev main_cst_14 : Ref sig .tc := ⟨.hbm, 135, rfl⟩
abbrev main_v83 : Ref sig .tc := ⟨.hbm, 136, rfl⟩
abbrev main_cst_15 : Ref sig .tc := ⟨.hbm, 137, rfl⟩
abbrev main_v84 : Ref sig .tc := ⟨.hbm, 138, rfl⟩
abbrev main_v85 : Ref sig .tc := ⟨.hbm, 139, rfl⟩
abbrev main_cst_16 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_17 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_18 : Ref sig .tc := ⟨.hbm, 149, rfl⟩
abbrev main_v93 : Ref sig .tc := ⟨.hbm, 150, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.StableHlo.Run
public import Idealize.ShloMosaic.Lib.Pipeline.Frame

/-! The reference's operations, listed stage by stage, and the fact that its entry function runs exactly these. -/

@[expose] public section

set_option Elab.async false
set_option maxRecDepth 8192

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- Two columns of indices side by side. -/
def joinIdx (a b : (⟨S4x1024x1, .i32⟩ : BufTy).Contents (Elt F)) : (⟨S4x1024x2, .i32⟩ : BufTy).Contents (Elt F) :=
  concatenate S4x1024x2 2 [⟨S4x1024x1, a⟩, ⟨S4x1024x1, b⟩] concatenates_S4x1024x1_S4x1024x1_S4x1024x2_d2

/-- The looked-up codes of the two groups, stacked. -/
def joinCode (a b : (⟨S4x1024x1x32, .f32⟩ : BufTy).Contents (Elt F)) : (⟨S4x1024x2x32, .f32⟩ : BufTy).Contents (Elt F) :=
  concatenate S4x1024x2x32 2 [⟨S4x1024x1x32, a⟩, ⟨S4x1024x1x32, b⟩] concatenates_S4x1024x1x32_S4x1024x1x32_S4x1024x2x32_d2

/-- The grouped 1×1 convolution. -/
abbrev opsConv : List (HloOp τ sig (Elt F)) :=
  [ unary main_arg0 main_v0 ((transpose S4x64x1024 [0, 2, 1] · transposes_S4x1024x64_S4x64x1024_0_2_1) : (⟨S4x1024x64, .f32⟩ : BufTy).Contents (Elt F) → (⟨S4x64x1024, .f32⟩ : BufTy).Contents (Elt F)),
    reshape main_v0 main_v1 (rfl : (.f32 : EltTy) = .f32) shapeCasts_S4x64x1024_S4x2x32x1024,
    reshape main_arg2 main_v2 (rfl : (.f32 : EltTy) = .f32) shapeCasts_S64x32x1_S64x32,
    reshape main_v2 main_v3 (rfl : (.f32 : EltTy) = .f32) shapeCasts_S64x32_S2x32x32,
    binary main_v3 main_v1 main_v4 ((fun l r => Host.dotGeneral dot_S2x32x32_S4x2x32x1024_S2x32x4x1024_2_2_1_03_0_1 none l r) : (⟨S2x32x32, .f32⟩ : BufTy).Contents (Elt F) → (⟨S4x2x32x1024, .f32⟩ : BufTy).Contents (Elt F) → (⟨S2x32x4x1024, .f32⟩ : BufTy).Contents (Elt F)),
    unary main_v4 main_v5 ((transpose S4x2x32x1024 [2, 0, 1, 3] · transposes_S2x32x4x1024_S4x2x32x1024_2_0_1_3) : (⟨S2x32x4x1024, .f32⟩ : BufTy).Contents (Elt F) → (⟨S4x2x32x1024, .f32⟩ : BufTy).Contents (Elt F)) ]

/-- The group normalisation. -/
abbrev opsNorm : List (HloOp τ sig (Elt F)) :=
  [ nullary main_cst (constant S_ .f32 0x00000000#32),
    binary main_v5 main_cst main_v6 ((fun x v => Host.reduceAdd x v reducesTo_S4x2x32x1024_S4x2_d2_3 h_S_) : (⟨S4x2x32x1024, .f32⟩ : BufTy).Contents (Elt F) → (⟨S_, .f32⟩ : BufTy).Contents (Elt F) → (⟨S4x2, .f32⟩ : BufTy).Contents (Elt F)),
    unary main_v6 main_v7 (broadcastInDim S4x2x1x1 ![0, 1] bcast_S4x2_S4x2x1x1_0_1 : (⟨S4x2, .f32⟩ : BufTy).Contents (Elt F) → (⟨S4x2x1x1, .f32⟩ : BufTy).Contents (Elt F)),
    nullary main_cst_0 (constant S_ .f32 0x47000000#32),
    unary main_cst_0 main_v8 (broadcastInDim S4x2x1x1 ![] bcast_S_S4x2x1x1 : (⟨S_, .f32⟩ : BufTy).Contents (Elt F) → (⟨S4x2x1x1, .f32⟩ : BufTy).Contents (Elt F)),
    binary main_v7 main_v8 main_v9 (Host.divf : (⟨S4x2x1x1, .f32⟩ : BufTy).Contents (Elt F) → (⟨S4x2x1x1, .f32⟩ : BufTy).Contents (Elt F) → (⟨S4x2x1x1, .f32⟩ : BufTy).Contents (Elt F)),
    nullary main_c (constantI S_ 32 0#32),
    TRef.nullary (TRef.of (T := ⟨S_, .f32⟩) main_call0_cst) (constant S_ .f32 0x00000000#32),
    TRef.binary (TRef.of (T := ⟨S4x2x32x1024, .f32⟩) main_v5) (TRef.of (T := ⟨S_, .f32⟩) main_call0_cst) (TRef.of (T := ⟨S4x2, .f32⟩) main_call0_v0) (fun x v => Host.reduceAdd x v reducesTo_S4x2x32x1024_S4x2_d2_3 h_S_),
    TRef.unary (TRef.of (T := ⟨S4x2, .f32⟩) main_call0_v0) (TRef.of (T := ⟨S4x2x1x1, .f32⟩) main_call0_v1) (broadcastInDim S4x2x1x1 ![0, 1] bcast_S4x2_S4x2x1x1_0_1),
    TRef.nullary (TRef.of (T := ⟨S_, .f32⟩) main_call0_cst_0) (constant S_ .f32 0x47000000#32),
    TRef.unary (TRef.of (T := ⟨S_, .f32⟩) main_call0_cst_0) (TRef.of (T := ⟨S4x2x1x1, .f32⟩) main_call0_v2) (broadcastInDim S4x2x1x1 ![] bcast_S_S4x2x1x1),
    TRef.binary (TRef.of (T := ⟨S4x2x1x1, .f32⟩) main_call0_v1) (TRef.of (T := ⟨S4x2x1x1, .f32⟩) main_call0_v2) (TRef.of (T := ⟨S4x2x1x1, .f32⟩) main_call0_v3) Host.divf,
    TRef.unary (TRef.of (T := ⟨S4x2x1x1, .f32⟩) main_call0_v3) (TRef.of (T := ⟨S4x2x32x1024, .f32⟩) main_call0_v4) (broadcastInDim S4x2x32x1024 ![0, 1, 2, 3] bcast_S4x2x1x1_S4x2x32x1024_0_1_2_3),
    TRef.binary (TRef.of (T := ⟨S4x2x32x1024, .f32⟩) main_v5) (TRef.of (T := ⟨S4x2x32x1024, .f32⟩) main_call0_v4) (TRef.of (T := ⟨S4x2x32x1024, .f32⟩) main_call0_v5) subf,
    TRef.binary (TRef.of (T := ⟨S4x2x32x1024, .f32⟩) main_call0_v5) (TRef.of (T := ⟨S4x2x32x1024, .f32⟩) main_call0_v5) (TRef.of (T := ⟨S4x2x32x1024, .f32⟩) main_call0_v6) mulf,
    TRef.unary (TRef.of (T := ⟨S_, .i32⟩) main_c) (TRef.of (T := ⟨S_, .f32⟩) main_call0_v7) (sitofp .f32),
    TRef.nullary (TRef.of (T := ⟨S_, .f32⟩) main_call0_cst_1) (constant S_ .f32 0x47000000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S4x2x32x1024, .f32⟩) main_call0_v6) (TRef.of (T := ⟨S_, .f32⟩) main_call0_cst_2) (TRef.of (T := ⟨S4x2, .f32⟩) main_call0_v9) (fun x v => Host.reduceAdd x v reducesTo_S4x2x32x1024_S4x2_d2_3 h_S_),
    TRef.unary (TRef.of (T := ⟨S4x2, .f32⟩) main_call0_v9) (TRef.of (T := ⟨S4x2x1x1, .f32⟩) main_call0_v10) (broadcastInDim S4x2x1x1 ![0, 1] bcast_S4x2_S4x2x1x1_0_1),
    TRef.unary (TRef.of (T := ⟨S_, .f32⟩) main_call0_v8) (TRef.of (T := ⟨S4x2x1x1, .f32⟩) main_call0_v11) (broadcastInDim S4x2x1x1 ![] bcast_S_S4x2x1x1),
    TRef.binary (TRef.of (T := ⟨S4x2x1x1, .f32⟩) main_call0_v10) (TRef.of (T := ⟨S4x2x1x1, .f32⟩) main_call0_v11) (TRef.of (T := ⟨S4x2x1x1, .f32⟩) main_call0_v12) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v13) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S4x2x1x1, .f32⟩) main_call0_call0_v1) (broadcastInDim S4x2x1x1 ![] bcast_S_S4x2x1x1),
    TRef.ternary (TRef.of (T := ⟨S_, .i1⟩) main_call0_v13) (TRef.of (T := ⟨S4x2x1x1, .f32⟩) main_call0_v12) (TRef.of (T := ⟨S4x2x1x1, .f32⟩) main_call0_call0_v1) (TRef.of (T := ⟨S4x2x1x1, .f32⟩) main_v10) (fun p a b => select (broadcastInDim S4x2x1x1 ![] bcast_S_S4x2x1x1 p) a b),
    unary main_v9 main_v11 (broadcastInDim S4x2x32x1024 ![0, 1, 2, 3] bcast_S4x2x1x1_S4x2x32x1024_0_1_2_3 : (⟨S4x2x1x1, .f32⟩ : BufTy).Contents (Elt F) → (⟨S4x2x32x1024, .f32⟩ : BufTy).Contents (Elt F)),
    binary main_v5 main_v11 main_v12 (subf : (⟨S4x2x32x1024, .f32⟩ : BufTy).Contents (Elt F) → (⟨S4x2x32x1024, .f32⟩ : BufTy).Contents (Elt F) → (⟨S4x2x32x1024, .f32⟩ : BufTy).Contents (Elt F)),
    nullary main_cst_1 (constant S_ .f32 0x3727C5AC#32),
    unary main_cst_1 main_v13 (broadcastInDim S4x2x1x1 ![] bcast_S_S4x2x1x1 : (⟨S_, .f32⟩ : BufTy).Contents (Elt F) → (⟨S4x2x1x1, .f32⟩ : BufTy).Contents (Elt F)),
    binary main_v10 main_v13 main_v14 (addf : (⟨S4x2x1x1, .f32⟩ : BufTy).Contents (Elt F) → (⟨S4x2x1x1, .f32⟩ : BufTy).Contents (Elt F) → (⟨S4x2x1x1, .f32⟩ : BufTy).Contents (Elt F)),
    unary main_v14 main_v15 (Host.sqrt : (⟨S4x2x1x1, .f32⟩ : BufTy).Contents (Elt F) → (⟨S4x2x1x1, .f32⟩ : BufTy).Contents (Elt F)),
    unary main_v15 main_v16 (broadcastInDim S4x2x32x1024 ![0, 1, 2, 3] bcast_S4x2x1x1_S4x2x32x1024_0_1_2_3 : (⟨S4x2x1x1, .f32⟩ : BufTy).Contents (Elt F) → (⟨S4x2x32x1024, .f32⟩ : BufTy).Contents (Elt F)),
    binary main_v12 main_v16 main_v17 (Host.divf : (⟨S4x2x32x1024, .f32⟩ : BufTy).Contents (Elt F) → (⟨S4x2x32x1024, .f32⟩ : BufTy).Contents (Elt F) → (⟨S4x2x32x1024, .f32⟩ : BufTy).Contents (Elt F)),
    reshape main_v17 main_v18 (rfl : (.f32 : EltTy) = .f32) shapeCasts_S4x2x32x1024_S4x64x1024,
    unary main_arg3 main_v19 (broadcastInDim S1x64x1 ![1] bcast_S64_S1x64x1_1 : (⟨S64, .f32⟩ : BufTy).Contents (Elt F) → (⟨S1x64x1, .f32⟩ : BufTy).Contents (Elt F)),
    unary main_v19 main_v20 (broadcastInDim S4x64x1024 ![0, 1, 2] bcast_S1x64x1_S4x64x1024_0_1_2 : (⟨S1x64x1, .f32⟩ : BufTy).Contents (Elt F) → (⟨S4x64x1024, .f32⟩ : BufTy).Contents (Elt F)),
    binary main_v18 main_v20 main_v21 (mulf : (⟨S4x64x1024, .f32⟩ : BufTy).Contents (Elt F) → (⟨S4x64x1024, .f32⟩ : BufTy).Contents (Elt F) → (⟨S4x64x1024, .f32⟩ : BufTy).Contents (Elt F)),
    unary main_arg4 main_v22 (broadcastInDim S1x64x1 ![1] bcast_S64_S1x64x1_1 : (⟨S64, .f32⟩ : BufTy).Contents (Elt F) → (⟨S1x64x1, .f32⟩ : BufTy).Contents (Elt F)),
    unary main_v22 main_v23 (broadcastInDim S4x64x1024 ![0, 1, 2] bcast_S1x64x1_S4x64x1024_0_1_2 : (⟨S1x64x1, .f32⟩ : BufTy).Contents (Elt F) → (⟨S4x64x1024, .f32⟩ : BufTy).Contents (Elt F)),
    binary main_v21 main_v23 main_v24 (addf : (⟨S4x64x1024, .f32⟩ : BufTy).Contents (Elt F) → (⟨S4x64x1024, .f32⟩ : BufTy).Contents (Elt F) → (⟨S4x64x1024, .f32⟩ : BufTy).Contents (Elt F)) ]

/-- The squared distances. -/
abbrev opsDist : List (HloOp τ sig (Elt F)) :=
  [ reshape main_v24 main_v25 (rfl : (.f32 : EltTy) = .f32) shapeCasts_S4x64x1024_S4x2x32x1024,
    unary main_v25 main_v26 ((transpose S4x1024x2x32 [0, 3, 1, 2] · transposes_S4x2x32x1024_S4x1024x2x32_0_3_1_2) : (⟨S4x2x32x1024, .f32⟩ : BufTy).Contents (Elt F) → (⟨S4x1024x2x32, .f32⟩ : BufTy).Contents (Elt F)),
    unary main_v26 main_v27 (broadcastInDim S1x4x1024x2x32 ![1, 2, 3, 4] bcast_S4x1024x2x32_S1x4x1024x2x32_1_2_3_4 : (⟨S4x1024x2x32, .f32⟩ : BufTy).Contents (Elt F) → (⟨S1x4x1024x2x32, .f32⟩ : BufTy).Contents (Elt F)),
    unary main_arg1 main_v28 (broadcastInDim S512x1x1x2x32 ![0, 3, 4] bcast_S512x2x32_S512x1x1x2x32_0_3_4 : (⟨S512x2x32, .f32⟩ : BufTy).Contents (Elt F) → (⟨S512x1x1x2x32, .f32⟩ : BufTy).Contents (Elt F)),
    unary main_v27 main_v29 (broadcastInDim S512x4x1024x2x32 ![0, 1, 2, 3, 4] bcast_S1x4x1024x2x32_S512x4x1024x2x32_0_1_2_3_4 : (⟨S1x4x1024x2x32, .f32⟩ : BufTy).Contents (Elt F) → (⟨S512x4x1024x2x32, .f32⟩ : BufTy).Contents (Elt F)),
    unary main_v28 main_v30 (broadcastInDim S512x4x1024x2x32 ![0, 1, 2, 3, 4] bcast_S512x1x1x2x32_S512x4x1024x2x32_0_1_2_3_4 : (⟨S512x1x1x2x32, .f32⟩ : BufTy).Contents (Elt F) → (⟨S512x4x1024x2x32, .f32⟩ : BufTy).Contents (Elt F)),
    binary main_v29 main_v30 main_v31 (subf : (⟨S512x4x1024x2x32, .f32⟩ : BufTy).Contents (Elt F) → (⟨S512x4x1024x2x32, .f32⟩ : BufTy).Contents (Elt F) → (⟨S512x4x1024x2x32, .f32⟩ : BufTy).Contents (Elt F)),
    binary main_v31 main_v31 main_v32 (mulf : (⟨S512x4x1024x2x32, .f32⟩ : BufTy).Contents (Elt F) → (⟨S512x4x1024x2x32, .f32⟩ : BufTy).Contents (Elt F) → (⟨S512x4x1024x2x32, .f32⟩ : BufTy).Contents (Elt F)),
    nullary main_cst_2 (constant S_ .f32 0x00000000#32),
    binary main_v32 main_cst_2 main_v33 ((fun x v => Host.reduceAdd x v reducesTo_S512x4x1024x2x32_S512x4x1024x2_d4 h_S_) : (⟨S512x4x1024x2x32, .f32⟩ : BufTy).Contents (Elt F) → (⟨S_, .f32⟩ : BufTy).Contents (Elt F) → (⟨S512x4x1024x2, .f32⟩ : BufTy).Contents (Elt F)) ]

/-- The nearest code of every token. -/
abbrev opsNear : List (HloOp τ sig (Elt F)) :=
  [ unary main_v33 main_v34 (Host.sqrt : (⟨S512x4x1024x2, .f32⟩ : BufTy).Contents (Elt F) → (⟨S512x4x1024x2, .f32⟩ : BufTy).Contents (Elt F)),
    TRef.nullary (TRef.of (T := ⟨S512x4x1024x2, .i32⟩) main_call1_v0) (iotaInDim S512x4x1024x2 32 0),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S512x4x1024x2, .f32⟩) main_v34) (TRef.of (T := ⟨S512x4x1024x2, .i32⟩) main_call1_v0) (TRef.of (T := ⟨S_, .f32⟩) main_call1_cst) (TRef.of (T := ⟨S_, .i32⟩) main_call1_c) (TRef.of (T := ⟨S4x1024x2, .f32⟩) main_call1_v1_0) (fun x y u v j => (Host.argReduce reducer_argmin_f32_i32 x y u v reducesTo_S512x4x1024x2_S4x1024x2_d0 h_S_ j).1),
    TRef.quaternary (TRef.of (T := ⟨S512x4x1024x2, .f32⟩) main_v34) (TRef.of (T := ⟨S512x4x1024x2, .i32⟩) main_call1_v0) (TRef.of (T := ⟨S_, .f32⟩) main_call1_cst) (TRef.of (T := ⟨S_, .i32⟩) main_call1_c) (TRef.of (T := ⟨S4x1024x2, .i32⟩) main_v35) (fun x y u v j => (Host.argReduce reducer_argmin_f32_i32 x y u v reducesTo_S512x4x1024x2_S4x1024x2_d0 h_S_ j).2) ]

/-- The nearest codes of the first group, looked up. -/
abbrev opsCodeA : List (HloOp τ sig (Elt F)) :=
  [ unary main_v35 main_v36 ((extractStridedSlice S4x1024x1 ![0, 0, 0] · slices_S4x1024x2_S4x1024x1_0_0_0) : (⟨S4x1024x2, .i32⟩ : BufTy).Contents (Elt F) → (⟨S4x1024x1, .i32⟩ : BufTy).Contents (Elt F)),
    reshape main_v36 main_v37 (rfl : (.i32 : EltTy) = .i32) shapeCasts_S4x1024x1_S4x1024,
    nullary main_c_3 (constantI S_ 32 0#32),
    unary main_c_3 main_v38 (broadcastInDim S4x1024 ![] bcast_S_S4x1024 : (⟨S_, .i32⟩ : BufTy).Contents (Elt F) → (⟨S4x1024, .i32⟩ : BufTy).Contents (Elt F)),
    binary main_v37 main_v38 main_v39 (cmpi .slt : (⟨S4x1024, .i32⟩ : BufTy).Contents (Elt F) → (⟨S4x1024, .i32⟩ : BufTy).Contents (Elt F) → (⟨S4x1024, .i1⟩ : BufTy).Contents (Elt F)),
    nullary main_c_4 (constantI S_ 32 512#32),
    unary main_c_4 main_v40 (broadcastInDim S4x1024 ![] bcast_S_S4x1024 : (⟨S_, .i32⟩ : BufTy).Contents (Elt F) → (⟨S4x1024, .i32⟩ : BufTy).Contents (Elt F)),
    binary main_v37 main_v40 main_v41 (addi : (⟨S4x1024, .i32⟩ : BufTy).Contents (Elt F) → (⟨S4x1024, .i32⟩ : BufTy).Contents (Elt F) → (⟨S4x1024, .i32⟩ : BufTy).Contents (Elt F)),
    ternary main_v39 main_v41 main_v37 main_v42 (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)),
    nullary main_c_5 (constantI S_ 32 0#32),
    unary main_c_5 main_v43 (broadcastInDim S4x1024 ![] bcast_S_S4x1024 : (⟨S_, .i32⟩ : BufTy).Contents (Elt F) → (⟨S4x1024, .i32⟩ : BufTy).Contents (Elt F)),
    unary main_v43 main_v44 (id : (⟨S4x1024, .i32⟩ : BufTy).Contents (Elt F) → (⟨S4x1024, .i32⟩ : BufTy).Contents (Elt F)),
    unary main_v42 main_v45 (broadcastInDim S4x1024x1 ![0, 1] bcast_S4x1024_S4x1024x1_0_1 : (⟨S4x1024, .i32⟩ : BufTy).Contents (Elt F) → (⟨S4x1024x1, .i32⟩ : BufTy).Contents (Elt F)),
    unary main_v44 main_v46 (broadcastInDim S4x1024x1 ![0, 1] bcast_S4x1024_S4x1024x1_0_1 : (⟨S4x1024, .i32⟩ : BufTy).Contents (Elt F) → (⟨S4x1024x1, .i32⟩ : BufTy).Contents (Elt F)),
    binary main_v45 main_v46 main_v47 (joinIdx (F := F)),
    binary main_arg1 main_v47 main_v48 ((fun x i => Host.gather gather_S512x2x32_S4x1024x2_S4x1024x32_2_01_n_n_01_2_1132 x i) : (⟨S512x2x32, .f32⟩ : BufTy).Contents (Elt F) → (⟨S4x1024x2, .i32⟩ : BufTy).Contents (Elt F) → (⟨S4x1024x32, .f32⟩ : BufTy).Contents (Elt F)),
    unary main_v35 main_v49 ((extractStridedSlice S4x1024x1 ![0, 0, 1] · slices_S4x1024x2_S4x1024x1_0_0_1) : (⟨S4x1024x2, .i32⟩ : BufTy).Contents (Elt F) → (⟨S4x1024x1, .i32⟩ : BufTy).Contents (Elt F)),
    reshape main_v49 main_v50 (rfl : (.i32 : EltTy) = .i32) shapeCasts_S4x1024x1_S4x1024,
    nullary main_c_6 (constantI S_ 32 0#32) ]

/-- The nearest codes of the second group, looked up, and both joined. -/
abbrev opsCodeB : List (HloOp τ sig (Elt F)) :=
  [ unary main_c_6 main_v51 (broadcastInDim S4x1024 ![] bcast_S_S4x1024 : (⟨S_, .i32⟩ : BufTy).Contents (Elt F) → (⟨S4x1024, .i32⟩ : BufTy).Contents (Elt F)),
    binary main_v50 main_v51 main_v52 (cmpi .slt : (⟨S4x1024, .i32⟩ : BufTy).Contents (Elt F) → (⟨S4x1024, .i32⟩ : BufTy).Contents (Elt F) → (⟨S4x1024, .i1⟩ : BufTy).Contents (Elt F)),
    nullary main_c_7 (constantI S_ 32 512#32),
    unary main_c_7 main_v53 (broadcastInDim S4x1024 ![] bcast_S_S4x1024 : (⟨S_, .i32⟩ : BufTy).Contents (Elt F) → (⟨S4x1024, .i32⟩ : BufTy).Contents (Elt F)),
    binary main_v50 main_v53 main_v54 (addi : (⟨S4x1024, .i32⟩ : BufTy).Contents (Elt F) → (⟨S4x1024, .i32⟩ : BufTy).Contents (Elt F) → (⟨S4x1024, .i32⟩ : BufTy).Contents (Elt F)),
    ternary main_v52 main_v54 main_v50 main_v55 (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)),
    nullary main_c_8 (constantI S_ 32 1#32),
    unary main_c_8 main_v56 (broadcastInDim S4x1024 ![] bcast_S_S4x1024 : (⟨S_, .i32⟩ : BufTy).Contents (Elt F) → (⟨S4x1024, .i32⟩ : BufTy).Contents (Elt F)),
    unary main_v56 main_v57 (id : (⟨S4x1024, .i32⟩ : BufTy).Contents (Elt F) → (⟨S4x1024, .i32⟩ : BufTy).Contents (Elt F)),
    unary main_v55 main_v58 (broadcastInDim S4x1024x1 ![0, 1] bcast_S4x1024_S4x1024x1_0_1 : (⟨S4x1024, .i32⟩ : BufTy).Contents (Elt F) → (⟨S4x1024x1, .i32⟩ : BufTy).Contents (Elt F)),
    unary main_v57 main_v59 (broadcastInDim S4x1024x1 ![0, 1] bcast_S4x1024_S4x1024x1_0_1 : (⟨S4x1024, .i32⟩ : BufTy).Contents (Elt F) → (⟨S4x1024x1, .i32⟩ : BufTy).Contents (Elt F)),
    binary main_v58 main_v59 main_v60 (joinIdx (F := F)),
    binary main_arg1 main_v60 main_v61 ((fun x i => Host.gather gather_S512x2x32_S4x1024x2_S4x1024x32_2_01_n_n_01_2_1132 x i) : (⟨S512x2x32, .f32⟩ : BufTy).Contents (Elt F) → (⟨S4x1024x2, .i32⟩ : BufTy).Contents (Elt F) → (⟨S4x1024x32, .f32⟩ : BufTy).Contents (Elt F)),
    unary main_v48 main_v62 (broadcastInDim S4x1024x1x32 ![0, 1, 3] bcast_S4x1024x32_S4x1024x1x32_0_1_3 : (⟨S4x1024x32, .f32⟩ : BufTy).Contents (Elt F) → (⟨S4x1024x1x32, .f32⟩ : BufTy).Contents (Elt F)),
    unary main_v61 main_v63 (broadcastInDim S4x1024x1x32 ![0, 1, 3] bcast_S4x1024x32_S4x1024x1x32_0_1_3 : (⟨S4x1024x32, .f32⟩ : BufTy).Contents (Elt F) → (⟨S4x1024x1x32, .f32⟩ : BufTy).Contents (Elt F)),
    binary main_v62 main_v63 main_v64 (joinCode (F := F)),
    reshape main_v64 main_v65 (rfl : (.f32 : EltTy) = .f32) shapeCasts_S4x1024x2x32_S4x1024x64,
    unary main_v65 main_v66 ((transpose S4x64x1024 [0, 2, 1] · transposes_S4x1024x64_S4x64x1024_0_2_1) : (⟨S4x1024x64, .f32⟩ : BufTy).Contents (Elt F) → (⟨S4x64x1024, .f32⟩ : BufTy).Contents (Elt F)) ]

/-- The straight-through output and the loss. -/
abbrev opsOut : List (HloOp τ sig (Elt F)) :=
  [ binary main_v24 main_v24 main_v67 (subf : (⟨S4x64x1024, .f32⟩ : BufTy).Contents (Elt F) → (⟨S4x64x1024, .f32⟩ : BufTy).Contents (Elt F) → (⟨S4x64x1024, .f32⟩ : BufTy).Contents (Elt F)),
    binary main_v66 main_v67 main_v68 (addf : (⟨S4x64x1024, .f32⟩ : BufTy).Contents (Elt F) → (⟨S4x64x1024, .f32⟩ : BufTy).Contents (Elt F) → (⟨S4x64x1024, .f32⟩ : BufTy).Contents (Elt F)),
    unary main_v68 main_v69 ((transpose S4x1024x64 [0, 2, 1] · transposes_S4x64x1024_S4x1024x64_0_2_1) : (⟨S4x64x1024, .f32⟩ : BufTy).Contents (Elt F) → (⟨S4x1024x64, .f32⟩ : BufTy).Contents (Elt F)),
    binary main_v66 main_v24 main_v70 (subf : (⟨S4x64x1024, .f32⟩ : BufTy).Contents (Elt F) → (⟨S4x64x1024, .f32⟩ : BufTy).Contents (Elt F) → (⟨S4x64x1024, .f32⟩ : BufTy).Contents (Elt F)),
    binary main_v70 main_v70 main_v71 (mulf : (⟨S4x64x1024, .f32⟩ : BufTy).Contents (Elt F) → (⟨S4x64x1024, .f32⟩ : BufTy).Contents (Elt F) → (⟨S4x64x1024, .f32⟩ : BufTy).Contents (Elt F)),
    nullary main_cst_9 (constant S_ .f32 0x00000000#32),
    binary main_v71 main_cst_9 main_v72 ((fun x v => Host.reduceAdd x v reducesTo_S4x64x1024_S_d0_1_2 h_S_) : (⟨S4x64x1024, .f32⟩ : BufTy).Contents (Elt F) → (⟨S_, .f32⟩ : BufTy).Contents (Elt F) → (⟨S_, .f32⟩ : BufTy).Contents (Elt F)),
    nullary main_cst_10 (constant S_ .f32 0x48800000#32),
    binary main_v72 main_cst_10 main_v73 (Host.divf : (⟨S_, .f32⟩ : BufTy).Contents (Elt F) → (⟨S_, .f32⟩ : BufTy).Contents (Elt F) → (⟨S_, .f32⟩ : BufTy).Contents (Elt F)),
    binary main_v24 main_v66 main_v74 (subf : (⟨S4x64x1024, .f32⟩ : BufTy).Contents (Elt F) → (⟨S4x64x1024, .f32⟩ : BufTy).Contents (Elt F) → (⟨S4x64x1024, .f32⟩ : BufTy).Contents (Elt F)),
    binary main_v74 main_v74 main_v75 (mulf : (⟨S4x64x1024, .f32⟩ : BufTy).Contents (Elt F) → (⟨S4x64x1024, .f32⟩ : BufTy).Contents (Elt F) → (⟨S4x64x1024, .f32⟩ : BufTy).Contents (Elt F)),
    nullary main_cst_11 (constant S_ .f32 0x00000000#32),
    binary main_v75 main_cst_11 main_v76 ((fun x v => Host.reduceAdd x v reducesTo_S4x64x1024_S_d0_1_2 h_S_) : (⟨S4x64x1024, .f32⟩ : BufTy).Contents (Elt F) → (⟨S_, .f32⟩ : BufTy).Contents (Elt F) → (⟨S_, .f32⟩ : BufTy).Contents (Elt F)),
    nullary main_cst_12 (constant S_ .f32 0x48800000#32),
    binary main_v76 main_cst_12 main_v77 (Host.divf : (⟨S_, .f32⟩ : BufTy).Contents (Elt F) → (⟨S_, .f32⟩ : BufTy).Contents (Elt F) → (⟨S_, .f32⟩ : BufTy).Contents (Elt F)),
    nullary main_cst_13 (constant S_ .f32 0x3E800000#32),
    binary main_cst_13 main_v77 main_v78 (mulf : (⟨S_, .f32⟩ : BufTy).Contents (Elt F) → (⟨S_, .f32⟩ : BufTy).Contents (Elt F) → (⟨S_, .f32⟩ : BufTy).Contents (Elt F)),
    binary main_v73 main_v78 main_v79 (addf : (⟨S_, .f32⟩ : BufTy).Contents (Elt F) → (⟨S_, .f32⟩ : BufTy).Contents (Elt F) → (⟨S_, .f32⟩ : BufTy).Contents (Elt F)) ]

/-- The perplexity. -/
abbrev opsPpl : List (HloOp τ sig (Elt F)) :=
  [ reshape main_v35 main_v80 (rfl : (.i32 : EltTy) = .i32) shapeCasts_S4x1024x2_S8192,
    TRef.unary (TRef.of (T := ⟨S8192, .i32⟩) main_v80) (TRef.of (T := ⟨S8192x1, .i32⟩) main_call2_v0) (broadcastInDim S8192x1 ![0] bcast_S8192_S8192x1_0),
    TRef.nullary (TRef.of (T := ⟨S1x512, .i32⟩) main_call2_v1) (iotaInDim S1x512 32 1),
    TRef.unary (TRef.of (T := ⟨S8192x1, .i32⟩) main_call2_v0) (TRef.of (T := ⟨S8192x512, .i32⟩) main_call2_v2) (broadcastInDim S8192x512 ![0, 1] bcast_S8192x1_S8192x512_0_1),
    TRef.unary (TRef.of (T := ⟨S1x512, .i32⟩) main_call2_v1) (TRef.of (T := ⟨S8192x512, .i32⟩) main_call2_v3) (broadcastInDim S8192x512 ![0, 1] bcast_S1x512_S8192x512_0_1),
    TRef.binary (TRef.of (T := ⟨S8192x512, .i32⟩) main_call2_v2) (TRef.of (T := ⟨S8192x512, .i32⟩) main_call2_v3) (TRef.of (T := ⟨S8192x512, .i1⟩) main_call2_v4) (cmpi .eq),
    TRef.unary (TRef.of (T := ⟨S8192x512, .i1⟩) main_call2_v4) (TRef.of (T := ⟨S8192x512, .f32⟩) main_v81) (uitofp .f32),
    reshape main_v81 main_v82 (rfl : (.f32 : EltTy) = .f32) shapeCasts_S8192x512_S4096x2x512,
    nullary main_cst_14 (constant S_ .f32 0x00000000#32),
    binary main_v82 main_cst_14 main_v83 ((fun x v => Host.reduceAdd x v reducesTo_S4096x2x512_S2x512_d0 h_S_) : (⟨S4096x2x512, .f32⟩ : BufTy).Contents (Elt F) → (⟨S_, .f32⟩ : BufTy).Contents (Elt F) → (⟨S2x512, .f32⟩ : BufTy).Contents (Elt F)),
    nullary main_cst_15 (constant S_ .f32 0x45800000#32),
    unary main_cst_15 main_v84 (broadcastInDim S2x512 ![] bcast_S_S2x512 : (⟨S_, .f32⟩ : BufTy).Contents (Elt F) → (⟨S2x512, .f32⟩ : BufTy).Contents (Elt F)),
    binary main_v83 main_v84 main_v85 (Host.divf : (⟨S2x512, .f32⟩ : BufTy).Contents (Elt F) → (⟨S2x512, .f32⟩ : BufTy).Contents (Elt F) → (⟨S2x512, .f32⟩ : BufTy).Contents (Elt F)),
    nullary main_cst_16 (constant S_ .f32 0x33D6BF95#32),
    unary main_cst_16 main_v86 (broadcastInDim S2x512 ![] bcast_S_S2x512 : (⟨S_, .f32⟩ : BufTy).Contents (Elt F) → (⟨S2x512, .f32⟩ : BufTy).Contents (Elt F)),
    binary main_v85 main_v86 main_v87 (addf : (⟨S2x512, .f32⟩ : BufTy).Contents (Elt F) → (⟨S2x512, .f32⟩ : BufTy).Contents (Elt F) → (⟨S2x512, .f32⟩ : BufTy).Contents (Elt F)),
    unary main_v87 main_v88 (Host.log : (⟨S2x512, .f32⟩ : BufTy).Contents (Elt F) → (⟨S2x512, .f32⟩ : BufTy).Contents (Elt F)),
    binary main_v85 main_v88 main_v89 (mulf : (⟨S2x512, .f32⟩ : BufTy).Contents (Elt F) → (⟨S2x512, .f32⟩ : BufTy).Contents (Elt F) → (⟨S2x512, .f32⟩ : BufTy).Contents (Elt F)),
    nullary main_cst_17 (constant S_ .f32 0x00000000#32),
    binary main_v89 main_cst_17 main_v90 ((fun x v => Host.reduceAdd x v reducesTo_S2x512_S2_d1 h_S_) : (⟨S2x512, .f32⟩ : BufTy).Contents (Elt F) → (⟨S_, .f32⟩ : BufTy).Contents (Elt F) → (⟨S2, .f32⟩ : BufTy).Contents (Elt F)),
    unary main_v90 main_v91 (Host.negf : (⟨S2, .f32⟩ : BufTy).Contents (Elt F) → (⟨S2, .f32⟩ : BufTy).Contents (Elt F)),
    unary main_v91 main_v92 (Host.exp : (⟨S2, .f32⟩ : BufTy).Contents (Elt F) → (⟨S2, .f32⟩ : BufTy).Contents (Elt F)),
    nullary main_cst_18 (constant S_ .f32 0x00000000#32),
    binary main_v92 main_cst_18 main_v93 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)) ]

/-- The reference's first window runs the stages up to the lookup in the first group. -/
def opsPart0 : List (HloOp τ sig (Elt F)) := opsConv ++ (opsNorm ++ (opsDist ++ (opsNear ++ opsCodeA)))

/-- The reference's second window runs the rest. -/
def opsPart1 : List (HloOp τ sig (Elt F)) := opsCodeB ++ (opsOut ++ opsPpl)

/-- The whole list. -/
abbrev ops : List (HloOp τ sig (Elt F)) := opsPart0 ++ opsPart1

set_option maxHeartbeats 4000000 in
/-- The first part of the program is its operations in order. -/
theorem main_part0_eq (c : Dev nD) : main_part0 (F := F) c = seq opsPart0 := rfl
set_option maxHeartbeats 4000000 in
/-- The second part of the program is its operations in order. -/
theorem main_part1_eq (c : Dev nD) : main_part1 (F := F) c = seq opsPart1 := rfl
/-- The entry function is the list, run in order. -/
theorem main_eq (c : Dev nD) : main (F := F) c = seq ops := by
  simp only [ops, seq_append, ← main_part0_eq c, ← main_part1_eq c]
  rfl

/-- The operations of the convolution stay within the program's buffers, -/
theorem subConv : (opsConv : List (HloOp τ sig (Elt F))).Forall fun op => op.bufs ⊆ tcRefs τ sig :=
  ⟨unary_bufs_sub .., reshape_bufs_sub .., reshape_bufs_sub .., reshape_bufs_sub .., binary_bufs_sub .., unary_bufs_sub ..⟩
/-- make no new buffer, -/
theorem freshConv : (opsConv : List (HloOp τ sig (Elt F))).Forall fun op => op.fresh = ∅ :=
  ⟨rfl, rfl, rfl, rfl, rfl, rfl⟩
/-- What this stage writes. -/
abbrev wrConv : List (Ref sig .tc) := [main_v0, main_v1, main_v2, main_v3, main_v4, main_v5]
/-- and write only these. -/
theorem writesConv : (opsConv : List (HloOp τ sig (Elt F))).Forall fun op => op.writes ⊆ (wrConv.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)
/-- A buffer that this stage does not write keeps its contents through it. -/
theorem keepConv (V : Valuation τ sig (Elt F)) (r : Ref sig .tc) (h : r ∉ wrConv) :
    after opsConv V (Proc.devRef .tc r) = V (Proc.devRef .tc r) :=
  after_of_writes_sub opsConv _ writesConv h

/-- The operations of the norm stay within the program's buffers, -/
theorem subNorm : (opsNorm : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., binary_bufs_sub .., unary_bufs_sub .., unary_bufs_sub .., binary_bufs_sub ..⟩
/-- make no new buffer, -/
theorem freshNorm : (opsNorm : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- What this stage writes. -/
abbrev wrNorm : List (Ref sig .tc) := [main_cst, main_v6, main_v7, main_cst_0, main_v8, main_v9, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v10, main_v11, main_v12, main_cst_1, main_v13, main_v14, main_v15, main_v16, main_v17, main_v18, main_v19, main_v20, main_v21, main_v22, main_v23, main_v24]
/-- and write only these. -/
theorem writesNorm : (opsNorm : List (HloOp τ sig (Elt F))).Forall fun op => op.writes ⊆ (wrNorm.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)
/-- A buffer that this stage does not write keeps its contents through it. -/
theorem keepNorm (V : Valuation τ sig (Elt F)) (r : Ref sig .tc) (h : r ∉ wrNorm) :
    after opsNorm V (Proc.devRef .tc r) = V (Proc.devRef .tc r) :=
  after_of_writes_sub opsNorm _ writesNorm h

/-- The operations of the distances stay within the program's buffers, -/
theorem subDist : (opsDist : List (HloOp τ sig (Elt F))).Forall fun op => op.bufs ⊆ tcRefs τ sig :=
  ⟨reshape_bufs_sub .., unary_bufs_sub .., unary_bufs_sub .., unary_bufs_sub .., unary_bufs_sub .., unary_bufs_sub .., binary_bufs_sub .., binary_bufs_sub .., nullary_bufs_sub .., binary_bufs_sub ..⟩
/-- make no new buffer, -/
theorem freshDist : (opsDist : List (HloOp τ sig (Elt F))).Forall fun op => op.fresh = ∅ :=
  ⟨rfl, rfl, rfl, rfl, rfl, rfl, rfl, rfl, rfl, rfl⟩
/-- What this stage writes. -/
abbrev wrDist : List (Ref sig .tc) := [main_v25, main_v26, main_v27, main_v28, main_v29, main_v30, main_v31, main_v32, main_cst_2, main_v33]
/-- and write only these. -/
theorem writesDist : (opsDist : List (HloOp τ sig (Elt F))).Forall fun op => op.writes ⊆ (wrDist.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)
/-- A buffer that this stage does not write keeps its contents through it. -/
theorem keepDist (V : Valuation τ sig (Elt F)) (r : Ref sig .tc) (h : r ∉ wrDist) :
    after opsDist V (Proc.devRef .tc r) = V (Proc.devRef .tc r) :=
  after_of_writes_sub opsDist _ writesDist h

/-- The operations of the search stay within the program's buffers, -/
theorem subNear : (opsNear : List (HloOp τ sig (Elt F))).Forall fun op => op.bufs ⊆ tcRefs τ sig :=
  ⟨unary_bufs_sub .., nullary_bufs_sub .., nullary_bufs_sub .., nullary_bufs_sub .., quaternary_bufs_sub .., quaternary_bufs_sub ..⟩
/-- make no new buffer, -/
theorem freshNear : (opsNear : List (HloOp τ sig (Elt F))).Forall fun op => op.fresh = ∅ :=
  ⟨rfl, rfl, rfl, rfl, rfl, rfl⟩
/-- What this stage writes. -/
abbrev wrNear : List (Ref sig .tc) := [main_v34, main_call1_v0, main_call1_cst, main_call1_c, main_call1_v1_0, main_v35]
/-- and write only these. -/
theorem writesNear : (opsNear : List (HloOp τ sig (Elt F))).Forall fun op => op.writes ⊆ (wrNear.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)
/-- A buffer that this stage does not write keeps its contents through it. -/
theorem keepNear (V : Valuation τ sig (Elt F)) (r : Ref sig .tc) (h : r ∉ wrNear) :
    after opsNear V (Proc.devRef .tc r) = V (Proc.devRef .tc r) :=
  after_of_writes_sub opsNear _ writesNear h

/-- The operations of the first lookup stay within the program's buffers, -/
theorem subCodeA : (opsCodeA : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., reshape_bufs_sub .., nullary_bufs_sub ..⟩
/-- make no new buffer, -/
theorem freshCodeA : (opsCodeA : List (HloOp τ sig (Elt F))).Forall fun op => op.fresh = ∅ :=
  ⟨rfl, rfl, rfl, rfl, rfl, rfl, rfl, rfl, rfl, rfl, rfl, rfl, rfl, rfl, rfl, rfl, rfl, rfl, rfl⟩
/-- What this stage writes. -/
abbrev wrCodeA : List (Ref sig .tc) := [main_v36, main_v37, main_c_3, main_v38, main_v39, main_c_4, main_v40, main_v41, main_v42, main_c_5, main_v43, main_v44, main_v45, main_v46, main_v47, main_v48, main_v49, main_v50, main_c_6]
/-- and write only these. -/
theorem writesCodeA : (opsCodeA : List (HloOp τ sig (Elt F))).Forall fun op => op.writes ⊆ (wrCodeA.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)
/-- A buffer that this stage does not write keeps its contents through it. -/
theorem keepCodeA (V : Valuation τ sig (Elt F)) (r : Ref sig .tc) (h : r ∉ wrCodeA) :
    after opsCodeA V (Proc.devRef .tc r) = V (Proc.devRef .tc r) :=
  after_of_writes_sub opsCodeA _ writesCodeA h

/-- The operations of the second lookup stay within the program's buffers, -/
theorem subCodeB : (opsCodeB : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., unary_bufs_sub .., binary_bufs_sub .., reshape_bufs_sub .., unary_bufs_sub ..⟩
/-- make no new buffer, -/
theorem freshCodeB : (opsCodeB : List (HloOp τ sig (Elt F))).Forall fun op => op.fresh = ∅ :=
  ⟨rfl, rfl, rfl, rfl, rfl, rfl, rfl, rfl, rfl, rfl, rfl, rfl, rfl, rfl, rfl, rfl, rfl, rfl⟩
/-- What this stage writes. -/
abbrev wrCodeB : List (Ref sig .tc) := [main_v51, main_v52, main_c_7, main_v53, main_v54, main_v55, main_c_8, main_v56, main_v57, main_v58, main_v59, main_v60, main_v61, main_v62, main_v63, main_v64, main_v65, main_v66]
/-- and write only these. -/
theorem writesCodeB : (opsCodeB : List (HloOp τ sig (Elt F))).Forall fun op => op.writes ⊆ (wrCodeB.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)
/-- A buffer that this stage does not write keeps its contents through it. -/
theorem keepCodeB (V : Valuation τ sig (Elt F)) (r : Ref sig .tc) (h : r ∉ wrCodeB) :
    after opsCodeB V (Proc.devRef .tc r) = V (Proc.devRef .tc r) :=
  after_of_writes_sub opsCodeB _ writesCodeB h

/-- The operations of the results stay within the program's buffers, -/
theorem subOut : (opsOut : List (HloOp τ sig (Elt F))).Forall fun op => op.bufs ⊆ tcRefs τ sig :=
  ⟨binary_bufs_sub .., binary_bufs_sub .., unary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub ..⟩
/-- make no new buffer, -/
theorem freshOut : (opsOut : List (HloOp τ sig (Elt F))).Forall fun op => op.fresh = ∅ :=
  ⟨rfl, rfl, rfl, rfl, rfl, rfl, rfl, rfl, rfl, rfl, rfl, rfl, rfl, rfl, rfl, rfl, rfl, rfl⟩
/-- What this stage writes. -/
abbrev wrOut : List (Ref sig .tc) := [main_v67, main_v68, main_v69, main_v70, main_v71, main_cst_9, main_v72, main_cst_10, main_v73, main_v74, main_v75, main_cst_11, main_v76, main_cst_12, main_v77, main_cst_13, main_v78, main_v79]
/-- and write only these. -/
theorem writesOut : (opsOut : List (HloOp τ sig (Elt F))).Forall fun op => op.writes ⊆ (wrOut.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)
/-- A buffer that this stage does not write keeps its contents through it. -/
theorem keepOut (V : Valuation τ sig (Elt F)) (r : Ref sig .tc) (h : r ∉ wrOut) :
    after opsOut V (Proc.devRef .tc r) = V (Proc.devRef .tc r) :=
  after_of_writes_sub opsOut _ writesOut h

/-- The operations of the perplexity stay within the program's buffers, -/
theorem subPpl : (opsPpl : List (HloOp τ sig (Elt F))).Forall fun op => op.bufs ⊆ tcRefs τ sig :=
  ⟨reshape_bufs_sub .., unary_bufs_sub .., nullary_bufs_sub .., unary_bufs_sub .., unary_bufs_sub .., binary_bufs_sub .., unary_bufs_sub .., reshape_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., binary_bufs_sub ..⟩
/-- make no new buffer, -/
theorem freshPpl : (opsPpl : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
/-- What this stage writes. -/
abbrev wrPpl : List (Ref sig .tc) := [main_v80, main_call2_v0, main_call2_v1, main_call2_v2, main_call2_v3, main_call2_v4, main_v81, main_v82, main_cst_14, main_v83, main_cst_15, main_v84, main_v85, main_cst_16, main_v86, main_v87, main_v88, main_v89, main_cst_17, main_v90, main_v91, main_v92, main_cst_18, main_v93]
/-- and write only these. -/
theorem writesPpl : (opsPpl : List (HloOp τ sig (Elt F))).Forall fun op => op.writes ⊆ (wrPpl.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)
/-- A buffer that this stage does not write keeps its contents through it. -/
theorem keepPpl (V : Valuation τ sig (Elt F)) (r : Ref sig .tc) (h : r ∉ wrPpl) :
    after opsPpl V (Proc.devRef .tc r) = V (Proc.devRef .tc r) :=
  after_of_writes_sub opsPpl _ writesPpl h

/-- Every operation reads and writes the core's buffers only. -/
theorem ops_sub : (ops : List (HloOp τ sig (Elt F))).Forall fun op => op.bufs ⊆ tcRefs τ sig :=
  List.forall_iff_forall_mem.mpr fun op h => by
    simp only [ops, opsPart0, opsPart1, List.mem_append, or_assoc] at h
    rcases h with h | h | h | h | h | h | h | h
    exacts [List.forall_iff_forall_mem.mp subConv op h, List.forall_iff_forall_mem.mp subNorm op h, List.forall_iff_forall_mem.mp subDist op h, List.forall_iff_forall_mem.mp subNear op h, List.forall_iff_forall_mem.mp subCodeA op h, List.forall_iff_forall_mem.mp subCodeB op h, List.forall_iff_forall_mem.mp subOut op h, List.forall_iff_forall_mem.mp subPpl op h]
/-- No operation allocates. -/
theorem ops_fresh : ∀ op ∈ (ops : List (HloOp τ sig (Elt F))), op.fresh = ∅ := fun op h => by
    simp only [ops, opsPart0, opsPart1, List.mem_append, or_assoc] at h
    rcases h with h | h | h | h | h | h | h | h
    exacts [List.forall_iff_forall_mem.mp freshConv op h, List.forall_iff_forall_mem.mp freshNorm op h, List.forall_iff_forall_mem.mp freshDist op h, List.forall_iff_forall_mem.mp freshNear op h, List.forall_iff_forall_mem.mp freshCodeA op h, List.forall_iff_forall_mem.mp freshCodeB op h, List.forall_iff_forall_mem.mp freshOut op h, List.forall_iff_forall_mem.mp freshPpl op h]
/-- The program has no scoped buffer, -/
theorem scopedRefs_eq : (Finset.univ.filter fun b : Ref sig .tc => b.isScoped) = ∅ := by decide
/-- and no scoped semaphore. -/
theorem scopedSems_eq : (Finset.univ.filter fun sm : SemLoc sig => sm.isScoped .tc) = ∅ := by decide

end Cert.Ref

end
-- ==== Proof.RefRun.lean ====
module

public import proofs.«01_k».proof.Proof.RefOps

/-! What the reference's stages compute, as functions, and its run: every execution ends with the three results at
these functions of the arguments and with the arguments unchanged. -/

@[expose] public section

set_option Elab.async false
set_option maxRecDepth 8192

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The grouped convolution: batch, group, output channel, position. -/
def conv (x : FVec F S4x1024x64 .f32) (w : FVec F S64x32x1 .f32) : FVec F S4x2x32x1024 .f32 :=
  transpose S4x2x32x1024 [2, 0, 1, 3]
    (Host.dotGeneral dot_S2x32x32_S4x2x32x1024_S2x32x4x1024_2_2_1_03_0_1 none
      (shapeCast S2x32x32 (shapeCast S64x32 w shapeCasts_S64x32x1_S64x32) shapeCasts_S64x32_S2x32x32)
      (shapeCast S4x2x32x1024 (transpose S4x64x1024 [0, 2, 1] x transposes_S4x1024x64_S4x64x1024_0_2_1)
        shapeCasts_S4x64x1024_S4x2x32x1024))
    transposes_S2x32x4x1024_S4x2x32x1024_2_0_1_3

/-- The sum over one batch's group, spread back over its channels and positions. -/
def groupSum (z : FVec F S4x2x32x1024 .f32) : FVec F S4x2x1x1 .f32 :=
  broadcastInDim S4x2x1x1 ![0, 1] bcast_S4x2_S4x2x1x1_0_1
    (Host.reduceAdd z (constant S_ .f32 0x00000000#32) reducesTo_S4x2x32x1024_S4x2_d2_3 h_S_)

/-- The mean over one batch's group. -/
def mean (z : FVec F S4x2x32x1024 .f32) : FVec F S4x2x1x1 .f32 :=
  Host.divf (groupSum z) (broadcastInDim S4x2x1x1 ![] bcast_S_S4x2x1x1 (constant S_ .f32 0x47000000#32))

/-- The deviation from the mean. -/
def centred (z : FVec F S4x2x32x1024 .f32) : FVec F S4x2x32x1024 .f32 :=
  subf z (broadcastInDim S4x2x32x1024 ![0, 1, 2, 3] bcast_S4x2x1x1_S4x2x32x1024_0_1_2_3 (mean z))

/-- The number of elements of a group less the zero degrees of freedom taken off. -/
def count : FVec F S_ .f32 := subf (constant S_ .f32 0x47000000#32) (sitofp .f32 (constantI S_ 32 0#32))

/-- The variance over one batch's group. -/
def variance (z : FVec F S4x2x32x1024 .f32) : FVec F S4x2x1x1 .f32 :=
  select (broadcastInDim S4x2x1x1 ![] bcast_S_S4x2x1x1 (cmpf .ogt (count (F := F)) (constant S_ .f32 0x00000000#32)))
    (Host.divf (groupSum (mulf (centred z) (centred z))) (broadcastInDim S4x2x1x1 ![] bcast_S_S4x2x1x1 count))
    (broadcastInDim S4x2x1x1 ![] bcast_S_S4x2x1x1 (id (constant S_ .f32 0x7FC00000#32)))

/-- The group normalisation with its scale and shift per channel: batch, channel, position. -/
def norm (z : FVec F S4x2x32x1024 .f32) (gw gb : FVec F S64 .f32) : FVec F S4x64x1024 .f32 :=
  addf (mulf (shapeCast S4x64x1024
      (Host.divf (centred z) (broadcastInDim S4x2x32x1024 ![0, 1, 2, 3] bcast_S4x2x1x1_S4x2x32x1024_0_1_2_3
        (Host.sqrt (addf (variance z)
          (broadcastInDim S4x2x1x1 ![] bcast_S_S4x2x1x1 (constant S_ .f32 0x3727C5AC#32))))))
      shapeCasts_S4x2x32x1024_S4x64x1024)
    (broadcastInDim S4x64x1024 ![0, 1, 2] bcast_S1x64x1_S4x64x1024_0_1_2
      (broadcastInDim S1x64x1 ![1] bcast_S64_S1x64x1_1 gw)))
    (broadcastInDim S4x64x1024 ![0, 1, 2] bcast_S1x64x1_S4x64x1024_0_1_2
      (broadcastInDim S1x64x1 ![1] bcast_S64_S1x64x1_1 gb))

/-- A token less a code: code, batch, position, group, channel. -/
def diff (n : FVec F S4x64x1024 .f32) (e : FVec F S512x2x32 .f32) : FVec F S512x4x1024x2x32 .f32 :=
  subf (broadcastInDim S512x4x1024x2x32 ![0, 1, 2, 3, 4] bcast_S1x4x1024x2x32_S512x4x1024x2x32_0_1_2_3_4
      (broadcastInDim S1x4x1024x2x32 ![1, 2, 3, 4] bcast_S4x1024x2x32_S1x4x1024x2x32_1_2_3_4
        (transpose S4x1024x2x32 [0, 3, 1, 2] (shapeCast S4x2x32x1024 n shapeCasts_S4x64x1024_S4x2x32x1024)
          transposes_S4x2x32x1024_S4x1024x2x32_0_3_1_2)))
    (broadcastInDim S512x4x1024x2x32 ![0, 1, 2, 3, 4] bcast_S512x1x1x2x32_S512x4x1024x2x32_0_1_2_3_4
      (broadcastInDim S512x1x1x2x32 ![0, 3, 4] bcast_S512x2x32_S512x1x1x2x32_0_3_4 e))

/-- The squared distance of a token to a code: code, batch, position, group. -/
def dist (n : FVec F S4x64x1024 .f32) (e : FVec F S512x2x32 .f32) : FVec F S512x4x1024x2 .f32 :=
  Host.reduceAdd (mulf (diff n e) (diff n e)) (constant S_ .f32 0x00000000#32)
    reducesTo_S512x4x1024x2x32_S512x4x1024x2_d4 h_S_

/-- The number of the first least of these values over the codes. -/
def argmin (d : FVec F S512x4x1024x2 .f32) : IVec S4x1024x2 32 := fun j =>
  (Host.argReduce reducer_argmin_f32_i32 d (iotaInDim S512x4x1024x2 32 0) (constant S_ .f32 0x7F800000#32)
    (constantI S_ 32 0#32) reducesTo_S512x4x1024x2_S4x1024x2_d0 h_S_ j).2

/-- The number of the nearest code. -/
def near (d : FVec F S512x4x1024x2 .f32) : IVec S4x1024x2 32 := argmin (Host.sqrt d)

/-- A column of code numbers with the number of its group beside it, a negative number counted from the end. -/
def rows (i : IVec S4x1024 32) (g : BitVec 32) : IVec S4x1024x2 32 :=
  joinIdx (F := F)
    (broadcastInDim S4x1024x1 ![0, 1] bcast_S4x1024_S4x1024x1_0_1
      (select (cmpi .slt i (broadcastInDim S4x1024 ![] bcast_S_S4x1024 (constantI S_ 32 0#32)))
        (addi i (broadcastInDim S4x1024 ![] bcast_S_S4x1024 (constantI S_ 32 512#32))) i))
    (broadcastInDim S4x1024x1 ![0, 1] bcast_S4x1024_S4x1024x1_0_1
      (id (broadcastInDim S4x1024 ![] bcast_S_S4x1024 (constantI S_ 32 g))))

/-- The first group's codes, looked up. -/
def codeA (e : FVec F S512x2x32 .f32) (ix : IVec S4x1024x2 32) : FVec F S4x1024x32 .f32 :=
  Host.gather gather_S512x2x32_S4x1024x2_S4x1024x32_2_01_n_n_01_2_1132 e
    (rows (F := F) (shapeCast S4x1024 (extractStridedSlice S4x1024x1 ![0, 0, 0] ix slices_S4x1024x2_S4x1024x1_0_0_0)
      shapeCasts_S4x1024x1_S4x1024) 0#32)

/-- The second group's column of code numbers. -/
def colB (ix : IVec S4x1024x2 32) : IVec S4x1024 32 :=
  shapeCast S4x1024 (extractStridedSlice S4x1024x1 ![0, 0, 1] ix slices_S4x1024x2_S4x1024x1_0_0_1)
    shapeCasts_S4x1024x1_S4x1024

/-- The two groups' codes as channels of one array: batch, channel, position. -/
def code (a : FVec F S4x1024x32 .f32) (e : FVec F S512x2x32 .f32) (i : IVec S4x1024 32) : FVec F S4x64x1024 .f32 :=
  transpose S4x64x1024 [0, 2, 1]
    (shapeCast S4x1024x64
      (joinCode (broadcastInDim S4x1024x1x32 ![0, 1, 3] bcast_S4x1024x32_S4x1024x1x32_0_1_3 a)
        (broadcastInDim S4x1024x1x32 ![0, 1, 3] bcast_S4x1024x32_S4x1024x1x32_0_1_3
          (Host.gather gather_S512x2x32_S4x1024x2_S4x1024x32_2_01_n_n_01_2_1132 e (rows (F := F) i 1#32))))
      shapeCasts_S4x1024x2x32_S4x1024x64)
    transposes_S4x1024x64_S4x64x1024_0_2_1

/-- The straight-through output: batch, position, channel. -/
def out (q n : FVec F S4x64x1024 .f32) : FVec F S4x1024x64 .f32 :=
  transpose S4x1024x64 [0, 2, 1] (addf q (subf n n)) transposes_S4x64x1024_S4x1024x64_0_2_1

/-- The mean square difference. -/
def mse (a b : FVec F S4x64x1024 .f32) : FVec F S_ .f32 :=
  Host.divf (Host.reduceAdd (mulf (subf a b) (subf a b)) (constant S_ .f32 0x00000000#32)
    reducesTo_S4x64x1024_S_d0_1_2 h_S_) (constant S_ .f32 0x48800000#32)

/-- The loss. -/
def loss (q n : FVec F S4x64x1024 .f32) : FVec F S_ .f32 :=
  addf (mse q n) (mulf (constant S_ .f32 0x3E800000#32) (mse n q))

/-- How often each code is taken, as a share of the tokens: group, code. -/
def share (ix : IVec S4x1024x2 32) : FVec F S2x512 .f32 :=
  Host.divf (Host.reduceAdd (shapeCast S4096x2x512
      (uitofp .f32 (cmpi .eq
        (broadcastInDim S8192x512 ![0, 1] bcast_S8192x1_S8192x512_0_1
          (broadcastInDim S8192x1 ![0] bcast_S8192_S8192x1_0 (shapeCast S8192 ix shapeCasts_S4x1024x2_S8192)))
        (broadcastInDim S8192x512 ![0, 1] bcast_S1x512_S8192x512_0_1 (iotaInDim S1x512 32 1))))
      shapeCasts_S8192x512_S4096x2x512) (constant S_ .f32 0x00000000#32) reducesTo_S4096x2x512_S2x512_d0 h_S_)
    (broadcastInDim S2x512 ![] bcast_S_S2x512 (constant S_ .f32 0x45800000#32))

/-- The perplexity of these shares, added over the groups. -/
def perp (p : FVec F S2x512 .f32) : FVec F S_ .f32 :=
  Host.reduceAdd (Host.exp (Host.negf (Host.reduceAdd (mulf p (Host.log (addf p
      (broadcastInDim S2x512 ![] bcast_S_S2x512 (constant S_ .f32 0x33D6BF95#32)))))
    (constant S_ .f32 0x00000000#32) reducesTo_S2x512_S2_d1 h_S_))) (constant S_ .f32 0x00000000#32)
    reducesTo_S2_S_d0 h_S_

section Stages

variable (V : Valuation τ sig (Elt F))

set_option maxHeartbeats 2000000

/-- What the convolution's operations leave. -/
theorem after_conv : after opsConv V (Proc.devRef .tc main_v5)
    = conv (V (Proc.devRef .tc main_arg0)) (V (Proc.devRef .tc main_arg2)) := by
  simp only [opsConv]
  after_results_simp
  rfl

/-- What the norm's operations leave. -/
theorem after_norm : after opsNorm V (Proc.devRef .tc main_v24)
    = norm (V (Proc.devRef .tc main_v5)) (V (Proc.devRef .tc main_arg3)) (V (Proc.devRef .tc main_arg4)) := by
  simp only [opsNorm, TRef.binary, TRef.nullary, TRef.unary, TRef.ternary, TRef.toBuf, TRef.ofBuf, cast_eq]
  after_results_simp
  rfl

/-- What the distances' operations leave. -/
theorem after_dist : after opsDist V (Proc.devRef .tc main_v33)
    = dist (V (Proc.devRef .tc main_v24)) (V (Proc.devRef .tc main_arg1)) := by
  simp only [opsDist]
  after_results_simp
  rfl

/-- What the search leaves. -/
theorem after_near : after opsNear V (Proc.devRef .tc main_v35) = near (V (Proc.devRef .tc main_v33)) := by
  simp only [opsNear, TRef.quaternary, TRef.nullary, TRef.toBuf, TRef.ofBuf, cast_eq]
  after_results_simp
  rfl

/-- What the first group's lookup leaves. -/
theorem after_codeA : after opsCodeA V (Proc.devRef .tc main_v48)
    = codeA (V (Proc.devRef .tc main_arg1)) (V (Proc.devRef .tc main_v35)) := by
  simp only [opsCodeA]
  after_results_simp
  rfl

/-- The second group's places, left by the first lookup. -/
theorem after_colB : after opsCodeA V (Proc.devRef .tc main_v50) = colB (V (Proc.devRef .tc main_v35)) := by
  simp only [opsCodeA]
  after_results_simp
  rfl

/-- A constant that the second lookup uses. -/
theorem after_c6 : after opsCodeA V (Proc.devRef .tc main_c_6) = (constantI S_ 32 0#32) := by
  simp only [opsCodeA]
  after_results_simp

/-- What the second group's lookup leaves. -/
theorem after_codeB (h : V (Proc.devRef .tc main_c_6) = constantI S_ 32 0#32) :
    after opsCodeB V (Proc.devRef .tc main_v66)
      = code (V (Proc.devRef .tc main_v48)) (V (Proc.devRef .tc main_arg1)) (V (Proc.devRef .tc main_v50)) := by
  simp only [opsCodeB]
  after_results_simp
  simp only [h]
  rfl

/-- The first result from the lookup. -/
theorem after_out : after opsOut V (Proc.devRef .tc main_v69)
    = out (V (Proc.devRef .tc main_v66)) (V (Proc.devRef .tc main_v24)) := by
  simp only [opsOut]
  after_results_simp
  rfl

/-- The third result from the lookup. -/
theorem after_loss : after opsOut V (Proc.devRef .tc main_v79)
    = loss (V (Proc.devRef .tc main_v66)) (V (Proc.devRef .tc main_v24)) := by
  simp only [opsOut]
  after_results_simp
  rfl

/-- The second result from the search. -/
theorem after_perp : after opsPpl V (Proc.devRef .tc main_v93) = perp (share (V (Proc.devRef .tc main_v35))) := by
  simp only [opsPpl, TRef.binary, TRef.nullary, TRef.unary, TRef.toBuf, TRef.ofBuf, cast_eq]
  after_results_simp
  rfl

end Stages

/-- The normalised tokens of the arguments. -/
def tokens (x : FVec F S4x1024x64 .f32) (w : FVec F S64x32x1 .f32) (gw gb : FVec F S64 .f32) : FVec F S4x64x1024 .f32 :=
  norm (conv x w) gw gb

/-- The nearest codes of the arguments' tokens. -/
def nearest (x : FVec F S4x1024x64 .f32) (e : FVec F S512x2x32 .f32) (w : FVec F S64x32x1 .f32)
    (gw gb : FVec F S64 .f32) : IVec S4x1024x2 32 :=
  near (dist (tokens x w gw gb) e)

/-- The nearest codes' vectors. -/
def quantised (x : FVec F S4x1024x64 .f32) (e : FVec F S512x2x32 .f32) (w : FVec F S64x32x1 .f32)
    (gw gb : FVec F S64 .f32) : FVec F S4x64x1024 .f32 :=
  code (codeA e (nearest x e w gw gb)) e (colB (nearest x e w gw gb))

section Whole

variable (V : Valuation τ sig (Elt F))

/-- No stage writes an argument. -/
theorem after_ops_arg (r : Ref sig .tc) (h : r ∈ [main_arg0, main_arg1, main_arg2, main_arg3, main_arg4]) :
    after ops V (Proc.devRef .tc r) = V (Proc.devRef .tc r) := by
  simp only [ops, opsPart0, opsPart1, after_append]
  fin_cases h <;>
  rw [keepPpl _ _ (by decide), keepOut _ _ (by decide), keepCodeB _ _ (by decide), keepCodeA _ _ (by decide),
    keepNear _ _ (by decide), keepDist _ _ (by decide), keepNorm _ _ (by decide), keepConv _ _ (by decide)]

/-- The first result from the arguments. -/
theorem after_ops_out : after ops V (Proc.devRef .tc main_v69)
    = out (quantised (V (Proc.devRef .tc main_arg0)) (V (Proc.devRef .tc main_arg1)) (V (Proc.devRef .tc main_arg2))
        (V (Proc.devRef .tc main_arg3)) (V (Proc.devRef .tc main_arg4)))
      (tokens (V (Proc.devRef .tc main_arg0)) (V (Proc.devRef .tc main_arg2)) (V (Proc.devRef .tc main_arg3))
        (V (Proc.devRef .tc main_arg4))) := by
  simp only [ops, opsPart0, opsPart1, after_append]
  rw [keepPpl _ _ (by decide), after_out, keepCodeB _ main_v24 (by decide), keepCodeA _ main_v24 (by decide),
    keepNear _ main_v24 (by decide), keepDist _ main_v24 (by decide), after_codeB _ (after_c6 _), after_codeA, after_colB,
    keepCodeA _ main_arg1 (by decide), after_near, keepNear _ main_arg1 (by decide), after_dist,
    keepDist _ main_arg1 (by decide), after_norm, keepNorm _ main_arg1 (by decide), after_conv,
    keepConv _ main_arg1 (by decide), keepConv _ main_arg3 (by decide), keepConv _ main_arg4 (by decide)]
  rfl

/-- The third result from the arguments. -/
theorem after_ops_loss : after ops V (Proc.devRef .tc main_v79)
    = loss (quantised (V (Proc.devRef .tc main_arg0)) (V (Proc.devRef .tc main_arg1)) (V (Proc.devRef .tc main_arg2))
        (V (Proc.devRef .tc main_arg3)) (V (Proc.devRef .tc main_arg4)))
      (tokens (V (Proc.devRef .tc main_arg0)) (V (Proc.devRef .tc main_arg2)) (V (Proc.devRef .tc main_arg3))
        (V (Proc.devRef .tc main_arg4))) := by
  simp only [ops, opsPart0, opsPart1, after_append]
  rw [keepPpl _ _ (by decide), after_loss, keepCodeB _ main_v24 (by decide), keepCodeA _ main_v24 (by decide),
    keepNear _ main_v24 (by decide), keepDist _ main_v24 (by decide), after_codeB _ (after_c6 _), after_codeA, after_colB,
    keepCodeA _ main_arg1 (by decide), after_near, keepNear _ main_arg1 (by decide), after_dist,
    keepDist _ main_arg1 (by decide), after_norm, keepNorm _ main_arg1 (by decide), after_conv,
    keepConv _ main_arg1 (by decide), keepConv _ main_arg3 (by decide), keepConv _ main_arg4 (by decide)]
  rfl

/-- The second result from the arguments. -/
theorem after_ops_perp : after ops V (Proc.devRef .tc main_v93)
    = perp (share (nearest (V (Proc.devRef .tc main_arg0)) (V (Proc.devRef .tc main_arg1))
        (V (Proc.devRef .tc main_arg2)) (V (Proc.devRef .tc main_arg3)) (V (Proc.devRef .tc main_arg4)))) := by
  simp only [ops, opsPart0, opsPart1, after_append]
  rw [after_perp, keepOut _ main_v35 (by decide), keepCodeB _ main_v35 (by decide), keepCodeA _ main_v35 (by decide),
    after_near, after_dist, after_norm, keepNorm _ main_arg1 (by decide), after_conv,
    keepConv _ main_arg1 (by decide), keepConv _ main_arg3 (by decide), keepConv _ main_arg4 (by decide)]
  rfl

end Whole

/-- On every device, from any memory with zero counters, every execution of the reference ends with the straight-through
output, the perplexity and the loss of the arguments as its results, and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69)
        = out (quantised (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)))
          (tokens (m ((c.tc : Thread nD τ).loc main_arg0)) (m ((c.tc : Thread nD τ).loc main_arg2))
            (m ((c.tc : Thread nD τ).loc main_arg3)) (m ((c.tc : Thread nD τ).loc main_arg4)))
      ∧ r.2.mem ((c.tc : Thread nD τ).loc main_v93)
        = perp (share (nearest (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))))
      ∧ r.2.mem ((c.tc : Thread nD τ).loc main_v79)
        = loss (quantised (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)))
          (tokens (m ((c.tc : Thread nD τ).loc main_arg0)) (m ((c.tc : Thread nD τ).loc main_arg2))
            (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v69).trans (after_ops_out (launchContents m c)),
      (h c main_v93).trans (after_ops_perp (launchContents m c)),
      (h c main_v79).trans (after_ops_loss (launchContents m c)),
      (h c main_arg0).trans (after_ops_arg (launchContents m c) main_arg0 (by decide)),
      (h c main_arg1).trans (after_ops_arg (launchContents m c) main_arg1 (by decide)),
      (h c main_arg2).trans (after_ops_arg (launchContents m c) main_arg2 (by decide)),
      (h c main_arg3).trans (after_ops_arg (launchContents m c) main_arg3 (by decide)),
      (h c main_arg4).trans (after_ops_arg (launchContents m c) main_arg4 (by decide))⟩)
    (run_seq scopedRefs_eq scopedSems_eq defs main (fun _ => ops) main_eq (fun _ => ops_sub) m ρ fun _ => ops_fresh)

end Cert.Ref

end
-- ==== Proof.Block.lean ====
/- What the kernel computes for one batch entry and one group of channels, said once.

   The kernel's code is written out for its four batch entries and two groups. The functions below say what one of
   those eight blocks computes from the entry's 1024 tokens, the group's codebook, weights and normalisation
   parameters; `out5_eq`, `out6_eq` and `out7_eq` say that the three results the kernel stores are put together from
   them. -/
module

public import proofs.«01_k».proof.Proof.Gen.KernelIdeal.Frame

@[expose] public section

set_option maxRecDepth 16384

noncomputable section

namespace Cert.Block

open Idealize.ShloMosaic Idealize.ShloMosaic.TcCoe
open Cert.KernelIdeal Cert.KernelIdeal.Gen

variable {F : FTy → Type} [FloatOps F]

/-- A block's tokens times the transpose of its weights. -/
def conv (w : Vec F S1x32x32 .f32) (x : Vec F S1x1024x32 .f32) : FVec F S1024x32 .f32 :=
  matmul dot_S1024x32_S32x32_S1024x32_1_1_0_0_n_n none
    (truncf .bf16 (shapeCast S1024x32 x shapeCasts_S1x1024x32_S1024x32) bitsLt_bf16_f32)
    (truncf .bf16 (shapeCast S32x32 w shapeCasts_S1x32x32_S32x32) bitsLt_bf16_f32)
    (constant S1024x32 .f32 0x00000000#32)

/-- The sum of a block's 32768 elements. -/
def total (z : FVec F S1024x32 .f32) : F .f32 :=
  extractAt ![0, 0, 0] (shapeCast S1x1x1 (multiReduction .add [1, 2] S1
    (shapeCast S1x1024x32 z shapeCasts_S1024x32_S1x1024x32) 0x00000000#32 reduces_S1x1024x32_S1 (.inl rfl) rfl)
    shapeCasts_S1_S1x1x1) inpos_S1x1x1_p0_0_0

/-- Their mean. -/
def mean (z : FVec F S1024x32 .f32) : F .f32 := Scalar.divf (total z) (Scalar.ofBits .f32 0x47000000#32)

/-- The block less its mean. -/
def centred (z : FVec F S1024x32 .f32) : FVec F S1024x32 .f32 := subf z (broadcast S1024x32 (mean z))

/-- The mean of the squares of that. -/
def variance (z : FVec F S1024x32 .f32) : F .f32 := mean (mulf (centred z) (centred z))

/-- The block normalised, scaled and shifted by channel. -/
def norm (z : FVec F S1024x32 .f32) (gw gb : Vec F S1x1x32 .f32) : FVec F S1024x32 .f32 :=
  addf (mulf (divf (centred z)
      (broadcast S1024x32 (Scalar.sqrt (Scalar.addf (variance z) (Scalar.ofBits .f32 0x3727C5AC#32)))))
    (broadcastTo S1024x32 (shapeCast S1x32 gw shapeCasts_S1x1x32_S1x32) broadcasts_S1x32_S1024x32))
    (broadcastTo S1024x32 (shapeCast S1x32 gb shapeCasts_S1x1x32_S1x32) broadcasts_S1x32_S1024x32)

/-- The tokens a block looks up. -/
def tokens (x : Vec F S1x1024x32 .f32) (w : Vec F S1x32x32 .f32) (gw gb : Vec F S1x1x32 .f32) : FVec F S1024x32 .f32 :=
  norm (conv w x) gw gb

/-- A group's codebook as a matrix. -/
def book (e : Vec F S1x512x32 .f32) : FVec F S512x32 .f32 := shapeCast S512x32 e shapeCasts_S1x512x32_S512x32

/-- Each code's score at each token: its squared length less twice its product with the token. -/
def score (e : Vec F S1x512x32 .f32) (z : FVec F S1024x32 .f32) : FVec F S512x1024 .f32 :=
  subf (broadcastTo S512x1024 (shapeCast S512x1 (multiReduction .add [1] S512 (mulf (book e) (book e)) 0x00000000#32
      reduces_S512x32_S512 (.inl rfl) rfl) shapeCasts_S512_S512x1) broadcasts_S512x1_S512x1024)
    (mulf (broadcast S512x1024 (Scalar.ofBits .f32 0x40000000#32))
      (matmul dot_S512x32_S1024x32_S512x1024_1_1_0_0_n_n (some .fp32) (book e) z
        (constant S512x1024 .f32 0x00000000#32)))

/-- The code's number, at every code and token. -/
def codes : IVec S512x1024 32 := iota .tc S512x1024 32 [0] iota_S512x1024_d0_w32

/-- The least score of each token. -/
def least (s : FVec F S512x1024 .f32) : FVec F S1x1024 .f32 :=
  shapeCast S1x1024 (multiReduction .minimumf [0] S1024 s 0x7F800000#32 reduces_S512x1024_S1024 (.inl rfl) rfl)
    shapeCasts_S1024_S1x1024

/-- The first code at which each token's score is least. -/
def first (s : FVec F S512x1024 .f32) : IVec S1x1024 32 :=
  shapeCast S1x1024 (multiReductionI .minsi [0] S1024
    (select (cmpf .ole s (broadcastTo S512x1024 (least s) broadcasts_S1x1024_S512x1024)) codes
      (broadcast S512x1024 512#32)) 2147483647#32 reduces_S512x1024_S1024 rfl) shapeCasts_S1024_S1x1024

/-- One at the code a token names, zero at the others. -/
def mark (i : IVec S1x1024 32) : FVec F S512x1024 .f32 :=
  sitofp .f32 (extui 32 (cmpi .eq codes (broadcastTo S512x1024 i broadcasts_S1x1024_S512x1024)) natLt_1_32)

/-- The scores with each token's first least one taken out. -/
def others (s : FVec F S512x1024 .f32) : FVec F S512x1024 .f32 :=
  select (cmpf .ogt (mark (F := F) (first s)) (broadcast S512x1024 (Scalar.ofBits .f32 0x00000000#32)))
    (broadcast S512x1024 (Scalar.ofBits .f32 0x7F800000#32)) s

/-- Half, more by the gap between the two least scores in units of 1/62500, at most one. -/
def lean (s : FVec F S512x1024 .f32) : FVec F S1x1024 .f32 :=
  minimumf (addf (broadcast S1x1024 (Scalar.ofBits .f32 0x3F000000#32))
      (maximumf (mulf (subf (least (others s)) (least s)) (broadcast S1x1024 (Scalar.ofBits .f32 0x47742400#32)))
        (broadcast S1x1024 (Scalar.ofBits .f32 0x00000000#32))))
    (broadcast S1x1024 (Scalar.ofBits .f32 0x3F800000#32))

/-- The nearest code's weight: one where `lean` is one, otherwise `lean` but at most six tenths. -/
def weight (s : FVec F S512x1024 .f32) : FVec F S1x1024 .f32 :=
  select (cmpf .oge (lean s) (broadcast S1x1024 (Scalar.ofBits .f32 0x3F800000#32)))
    (broadcast S1x1024 (Scalar.ofBits .f32 0x3F800000#32))
    (minimumf (lean s) (broadcast S1x1024 (Scalar.ofBits .f32 0x3F19999A#32)))

/-- The weights of the two nearest codes. -/
def mix (s : FVec F S512x1024 .f32) : FVec F S512x1024 .f32 :=
  addf (mulf (mark (first s)) (broadcastTo S512x1024 (weight s) broadcasts_S1x1024_S512x1024))
    (mulf (mark (first (others s)))
      (broadcastTo S512x1024 (subf (broadcast S1x1024 (Scalar.ofBits .f32 0x3F800000#32)) (weight s))
        broadcasts_S1x1024_S512x1024))

/-- The block's quantised tokens. -/
def quant (e : Vec F S1x512x32 .f32) (z : FVec F S1024x32 .f32) : FVec F S1024x32 .f32 :=
  matmul dot_S512x1024_S512x32_S1024x32_0_0_1_1_n_n (some .fp32) (mix (score e z)) (book e)
    (constant S1024x32 .f32 0x00000000#32)

/-- The block's squared error. -/
def err (e : Vec F S1x512x32 .f32) (z : FVec F S1024x32 .f32) : F .f32 :=
  total (mulf (subf (quant e z) z) (subf (quant e z) z))

/-- How many tokens each code is nearest to. -/
def uses (e : Vec F S1x512x32 .f32) (z : FVec F S1024x32 .f32) : FVec F S512x1 .f32 :=
  shapeCast S512x1 (multiReduction .add [1] S512 (mark (first (score e z))) 0x00000000#32 reduces_S512x1024_S512
    (.inl rfl) rfl) shapeCasts_S512_S512x1

/-- The two groups side by side, as a batch entry of the result. -/
def entry (p q : FVec F S1024x32 .f32) : FVec F S1x1024x64 .f32 :=
  shapeCast S1x1024x64 (concatenate S1024x64 1 [⟨S1024x32, p⟩, ⟨S1024x32, q⟩]
    concatenates_S1024x32_S1024x32_S1024x64_d1) shapeCasts_S1024x64_S1x1024x64

/-- A use count as a share of the 4096 tokens. -/
def share (h : FVec F S512x1 .f32) : FVec F S512x1 .f32 := mulf h (broadcast S512x1 (Scalar.ofBits .f32 0x39800000#32))

/-- The exponential of the shares' entropy. -/
def spread (p : FVec F S512x1 .f32) : F .f32 :=
  Scalar.exp (Scalar.subf (Scalar.ofBits .f32 0x00000000#32) (extractAt ![0, 0, 0] (shapeCast S1x1x1
    (multiReduction .add [1, 2] S1 (shapeCast S1x512x1 (mulf p (log (addf p
      (broadcast S512x1 (Scalar.ofBits .f32 0x33D6BF95#32))))) shapeCasts_S512x1_S1x512x1) 0x00000000#32
      reduces_S1x512x1_S1 (.inl rfl) rfl) shapeCasts_S1_S1x1x1) inpos_S1x1x1_p0_0_0))

/-- A use count before any block is counted. -/
def none : FVec F S512x1 .f32 := broadcast S512x1 (Scalar.ofBits .f32 0x00000000#32)

variable (x0 : Vec F S4x1024x64 .f32) (x1 : Vec F S2x512x32 .f32) (x2 : Vec F S2x32x32 .f32)
  (x3 x4 : Vec F S2x1x32 .f32)

/-- Group 0's tokens of a batch entry, from its columns of the input; -/
abbrev tok0 (x : Vec F S1x1024x32 .f32) : FVec F S1024x32 .f32 :=
  tokens x (View.ld x2 r0_2) (View.ld x3 r0_5) (View.ld x4 r0_5)

/-- and group 1's. -/
abbrev tok1 (x : Vec F S1x1024x32 .f32) : FVec F S1024x32 .f32 :=
  tokens x (View.ld x2 r0_3) (View.ld x3 r0_7) (View.ld x4 r0_7)

/-- One batch entry of the first result, from the two groups' columns of the input. -/
abbrev row (x x' : Vec F S1x1024x32 .f32) : FVec F S1x1024x64 .f32 :=
  entry (quant (View.ld x1 r0_0) (tok0 x2 x3 x4 x)) (quant (View.ld x1 r0_1) (tok1 x2 x3 x4 x'))

/-- A batch entry's use counts of group 0's codes; -/
abbrev uses0 (x : Vec F S1x1024x32 .f32) : FVec F S512x1 .f32 := uses (View.ld x1 r0_0) (tok0 x2 x3 x4 x)

/-- of group 1's; -/
abbrev uses1 (x : Vec F S1x1024x32 .f32) : FVec F S512x1 .f32 := uses (View.ld x1 r0_1) (tok1 x2 x3 x4 x)

/-- its squared error in group 0; -/
abbrev err0 (x : Vec F S1x1024x32 .f32) : F .f32 := err (View.ld x1 r0_0) (tok0 x2 x3 x4 x)

/-- and in group 1. -/
abbrev err1 (x : Vec F S1x1024x32 .f32) : F .f32 := err (View.ld x1 r0_1) (tok1 x2 x3 x4 x)

/-- The first result is the four batch entries. -/
theorem out5_eq : out0_5 x0 x1 x2 x3 x4 = View.canon [
    ⟨r0_17, row x1 x2 x3 x4 (View.ld x0 r0_15) (View.ld x0 r0_16)⟩,
    ⟨r0_14, row x1 x2 x3 x4 (View.ld x0 r0_12) (View.ld x0 r0_13)⟩,
    ⟨r0_11, row x1 x2 x3 x4 (View.ld x0 r0_9) (View.ld x0 r0_10)⟩,
    ⟨r0_8, row x1 x2 x3 x4 (View.ld x0 r0_4) (View.ld x0 r0_6)⟩] := by
  rfl

/-- The second result is the sum of the two groups' spreads. -/
theorem out6_eq : out0_6 x0 x1 x2 x3 x4 = View.canon [⟨r0_18, broadcast S1x1 (Scalar.addf
    (Scalar.addf (Scalar.ofBits .f32 0x00000000#32) (spread (share (addf (addf (addf (addf none
      (uses0 x1 x2 x3 x4 (View.ld x0 r0_4))) (uses0 x1 x2 x3 x4 (View.ld x0 r0_9)))
      (uses0 x1 x2 x3 x4 (View.ld x0 r0_12))) (uses0 x1 x2 x3 x4 (View.ld x0 r0_15))))))
    (spread (share (addf (addf (addf (addf none
      (uses1 x1 x2 x3 x4 (View.ld x0 r0_6))) (uses1 x1 x2 x3 x4 (View.ld x0 r0_10)))
      (uses1 x1 x2 x3 x4 (View.ld x0 r0_13))) (uses1 x1 x2 x3 x4 (View.ld x0 r0_16))))))⟩] := by
  rfl

/-- The third result is the eight blocks' squared errors, summed and scaled. -/
theorem out7_eq : out0_7 x0 x1 x2 x3 x4 = View.canon [⟨r0_18, broadcast S1x1 (Scalar.mulf
    (Scalar.addf (Scalar.addf (Scalar.addf (Scalar.addf (Scalar.addf (Scalar.addf (Scalar.addf
      (Scalar.addf (Scalar.ofBits .f32 0x00000000#32) (err0 x1 x2 x3 x4 (View.ld x0 r0_4)))
      (err1 x1 x2 x3 x4 (View.ld x0 r0_6))) (err0 x1 x2 x3 x4 (View.ld x0 r0_9)))
      (err1 x1 x2 x3 x4 (View.ld x0 r0_10))) (err0 x1 x2 x3 x4 (View.ld x0 r0_12)))
      (err1 x1 x2 x3 x4 (View.ld x0 r0_13))) (err0 x1 x2 x3 x4 (View.ld x0 r0_15)))
      (err1 x1 x2 x3 x4 (View.ld x0 r0_16))) (Scalar.ofBits .f32 0x36A00000#32))⟩] := by
  rfl

end Cert.Block

end
-- ==== Proof.Model.lean ====
/- The mathematics of the quantiser over the real numbers.

   A block is one batch entry and one group of channels: 1024 tokens of 32 channels, a weight matrix, a scale and a
   shift per channel, and a codebook of 512 codes. -/
module

public import Idealize.ShloMosaic.PureOps.Ideal.Laws
public import Idealize.ShloMosaic.Lib.IdealHost

@[expose] public section

noncomputable section

namespace Cert.Model

open Idealize.ShloMosaic

/-! ## The literals both programs write -/

/-- The number added to a variance before its root is taken. -/
def eps : ℝ := 10995116 / 2 ^ 40

/-- The number added to a share before its logarithm is taken. -/
def tiny : ℝ := 14073749 / 2 ^ 47

/-- The variance's constant is positive. -/
theorem eps_pos : 0 < eps := by unfold eps; positivity

/-- The logarithm's constant is positive. -/
theorem tiny_pos : 0 < tiny := by unfold tiny; positivity

/-- The word of the variance's constant. -/
theorem word_eps : Ideal.ofBits .f32 0x3727C5AC#32 = (eps : EReal) := by
  simp [Ideal.ofBits, Ideal.ieee, eps, -EReal.coe_mul]; norm_num

/-- The word of the logarithm's constant. -/
theorem word_tiny : Ideal.ofBits .f32 0x33D6BF95#32 = (tiny : EReal) := by
  simp [Ideal.ofBits, Ideal.ieee, tiny, -EReal.coe_mul]; norm_num

/-- The word of zero. -/
theorem word_zero : Ideal.ofBits .f32 0x00000000#32 = ((0 : ℝ) : EReal) := by
  simp [Ideal.ofBits, Ideal.ieee, -EReal.coe_mul]

/-- The word of one. -/
theorem word_one : Ideal.ofBits .f32 0x3F800000#32 = ((1 : ℝ) : EReal) := by
  simp [Ideal.ofBits, Ideal.ieee, -EReal.coe_mul]; norm_num

/-- The word of two. -/
theorem word_two : Ideal.ofBits .f32 0x40000000#32 = ((2 : ℝ) : EReal) := by
  simp [Ideal.ofBits, Ideal.ieee, -EReal.coe_mul]; norm_num

/-- The word of a half. -/
theorem word_half : Ideal.ofBits .f32 0x3F000000#32 = ((1 / 2 : ℝ) : EReal) := by
  simp [Ideal.ofBits, Ideal.ieee, -EReal.coe_mul]; norm_num

/-- The word of a quarter. -/
theorem word_quarter : Ideal.ofBits .f32 0x3E800000#32 = ((1 / 4 : ℝ) : EReal) := by
  simp [Ideal.ofBits, Ideal.ieee, -EReal.coe_mul]; norm_num

/-- The word of a block's count of entries. -/
theorem word_size : Ideal.ofBits .f32 0x47000000#32 = ((32768 : ℝ) : EReal) := by
  simp [Ideal.ofBits, Ideal.ieee, -EReal.coe_mul]; norm_num

/-- The word of the count of tokens. -/
theorem word_tokens : Ideal.ofBits .f32 0x45800000#32 = ((4096 : ℝ) : EReal) := by
  simp [Ideal.ofBits, Ideal.ieee, -EReal.coe_mul]; norm_num

/-- The word of its inverse. -/
theorem word_tokens_inv : Ideal.ofBits .f32 0x39800000#32 = ((1 / 4096 : ℝ) : EReal) := by
  simp [Ideal.ofBits, Ideal.ieee, -EReal.coe_mul]; norm_num

/-- The word of the count of elements. -/
theorem word_elements : Ideal.ofBits .f32 0x48800000#32 = ((262144 : ℝ) : EReal) := by
  simp [Ideal.ofBits, Ideal.ieee, -EReal.coe_mul]; norm_num

/-- The word of the loss's factor. -/
theorem word_loss : Ideal.ofBits .f32 0x36A00000#32 = ((5 / 1048576 : ℝ) : EReal) := by
  simp [Ideal.ofBits, Ideal.ieee, -EReal.coe_mul]; norm_num

/-- The word of the weight's slope. -/
theorem word_slope : Ideal.ofBits .f32 0x47742400#32 = ((62500 : ℝ) : EReal) := by
  simp [Ideal.ofBits, Ideal.ieee, -EReal.coe_mul]; norm_num

/-- The word of the bound's inverse. -/
theorem word_clear : Ideal.ofBits .f32 0x47F42400#32 = ((125000 : ℝ) : EReal) := by
  simp [Ideal.ofBits, Ideal.ieee, -EReal.coe_mul]; norm_num

/-- The word of infinity. -/
theorem word_top : Ideal.ofBits .f32 0x7F800000#32 = ⊤ := by
  simp [Ideal.ofBits, Ideal.ieee]

/-! ## Reals among the extended reals -/

/-- A finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- The root of a real that is not negative. -/
theorem sqrt_coe (a : ℝ) (ha : 0 ≤ a) : Ideal.sqrt (a : EReal) = ((Real.sqrt a : ℝ) : EReal) := by
  rw [Ideal.sqrt_coe, if_neg (not_lt.mpr ha)]

/-- The logarithm of a positive real. -/
theorem log_coe (a : ℝ) (ha : 0 < a) : Ideal.log (a : EReal) = ((Real.log a : ℝ) : EReal) := by
  rw [Ideal.log_coe, if_neg (not_le.mpr ha)]

/-! ## The tokens -/

/-- A block's tokens times the transpose of its weights. -/
def conv (x : Fin 1024 → Fin 32 → ℝ) (w : Fin 32 → Fin 32 → ℝ) : Fin 1024 → Fin 32 → ℝ := fun t o => ∑ c, x t c * w o c

/-- The sum of a block's elements. -/
def total (z : Fin 1024 → Fin 32 → ℝ) : ℝ := ∑ t, ∑ o, z t o

/-- Their mean. -/
def mean (z : Fin 1024 → Fin 32 → ℝ) : ℝ := total z / 32768

/-- Their variance. -/
def variance (z : Fin 1024 → Fin 32 → ℝ) : ℝ := mean fun t o => (z t o - mean z) * (z t o - mean z)

/-- The block normalised, scaled and shifted. -/
def norm (z : Fin 1024 → Fin 32 → ℝ) (gw gb : Fin 32 → ℝ) : Fin 1024 → Fin 32 → ℝ := fun t o =>
  (z t o - mean z) / Real.sqrt (variance z + eps) * gw o + gb o

/-- A variance is not negative. -/
theorem variance_nonneg (z : Fin 1024 → Fin 32 → ℝ) : 0 ≤ variance z := by
  unfold variance mean total
  exact div_nonneg (Finset.sum_nonneg fun t _ => Finset.sum_nonneg fun o _ => mul_self_nonneg _) (by norm_num)

/-- The divisor is not zero. -/
theorem sqrt_ne (z : Fin 1024 → Fin 32 → ℝ) : Real.sqrt (variance z + eps) ≠ 0 :=
  (Real.sqrt_pos.mpr (add_pos_of_nonneg_of_pos (variance_nonneg z) eps_pos)).ne'

/-! ## The nearest code -/

/-- `k` is the first place at which `f` is least. -/
def IsFirst (f : Fin 512 → ℝ) (k : Fin 512) : Prop := (∀ j, f k ≤ f j) ∧ ∀ j, j < k → f k < f j

/-- There is a first least place, -/
theorem exists_isFirst (f : Fin 512 → ℝ) : ∃ k, IsFirst f k := by
  classical
  obtain ⟨m, -, hm⟩ := Finset.exists_min_image Finset.univ f ⟨0, Finset.mem_univ _⟩
  have hne : (Finset.univ.filter fun k => ∀ j, f k ≤ f j).Nonempty :=
    ⟨m, Finset.mem_filter.mpr ⟨Finset.mem_univ _, fun j => hm j (Finset.mem_univ _)⟩⟩
  have hk := Finset.min'_mem _ hne
  refine ⟨Finset.min' _ hne, (Finset.mem_filter.mp hk).2, fun j hj => ?_⟩
  by_contra hlt
  have hmem : j ∈ Finset.univ.filter fun k => ∀ j, f k ≤ f j :=
    Finset.mem_filter.mpr ⟨Finset.mem_univ _, fun i => (not_lt.mp hlt).trans ((Finset.mem_filter.mp hk).2 i)⟩
  exact absurd (Finset.min'_le _ _ hmem) (not_le.mpr hj)

/-- and one only. -/
theorem IsFirst.unique {f : Fin 512 → ℝ} {k k' : Fin 512} (h : IsFirst f k) (h' : IsFirst f k') : k = k' := by
  rcases lt_trichotomy k k' with hlt | heq | hgt
  · exact absurd (h'.2 k hlt) (not_lt.mpr (h.1 k'))
  · exact heq
  · exact absurd (h.2 k' hgt) (not_lt.mpr (h'.1 k))

/-- The first least place is the same after any change of values that keeps their order. -/
theorem IsFirst.of_order {f g : Fin 512 → ℝ} {k : Fin 512} (h : IsFirst f k) (hfg : ∀ i j, f i < f j ↔ g i < g j) :
    IsFirst g k :=
  ⟨fun j => not_lt.mp fun hj => absurd ((hfg _ _).mpr hj) (not_lt.mpr (h.1 j)), fun j hj => (hfg _ _).mp (h.2 j hj)⟩

/-- The squared distance of a token to a code. -/
def dist (e : Fin 512 → Fin 32 → ℝ) (n : Fin 32 → ℝ) (k : Fin 512) : ℝ := ∑ c, (n c - e k c) * (n c - e k c)

/-- A code's squared length less twice its product with the token. -/
def score (e : Fin 512 → Fin 32 → ℝ) (n : Fin 32 → ℝ) (k : Fin 512) : ℝ := ∑ c, e k c * e k c - 2 * ∑ c, e k c * n c

/-- The score is the squared distance less the token's squared length. -/
theorem dist_eq (e : Fin 512 → Fin 32 → ℝ) (n : Fin 32 → ℝ) (k : Fin 512) :
    dist e n k = ∑ c, n c * n c + score e n k := by
  unfold dist score
  rw [Finset.mul_sum, ← Finset.sum_sub_distrib, ← Finset.sum_add_distrib]
  exact Finset.sum_congr rfl fun c _ => by ring

/-- A squared distance is not negative. -/
theorem dist_nonneg (e : Fin 512 → Fin 32 → ℝ) (n : Fin 32 → ℝ) (k : Fin 512) : 0 ≤ dist e n k :=
  Finset.sum_nonneg fun _ _ => mul_self_nonneg _

/-- The number of the code nearest to a token: the first, of several at the same distance. -/
def code (e : Fin 512 → Fin 32 → ℝ) (n : Fin 32 → ℝ) : Fin 512 := (exists_isFirst (dist e n)).choose

/-- The nearest code is the first at the least distance. -/
theorem code_dist (e : Fin 512 → Fin 32 → ℝ) (n : Fin 32 → ℝ) : IsFirst (dist e n) (code e n) :=
  (exists_isFirst (dist e n)).choose_spec

/-- It is the first code of least score, -/
theorem code_score (e : Fin 512 → Fin 32 → ℝ) (n : Fin 32 → ℝ) : IsFirst (score e n) (code e n) :=
  (code_dist e n).of_order fun i j => by rw [dist_eq, dist_eq, add_lt_add_iff_left]

/-- and the first code of least distance. -/
theorem code_sqrt (e : Fin 512 → Fin 32 → ℝ) (n : Fin 32 → ℝ) :
    IsFirst (fun k => Real.sqrt (dist e n k)) (code e n) :=
  (code_dist e n).of_order fun i j => (Real.sqrt_lt_sqrt_iff (dist_nonneg e n i)).symm

/-- A token is clear of the other codes: each is farther than the nearest by at least 8e-6 in squared distance. -/
def Clear (e : Fin 512 → Fin 32 → ℝ) (n : Fin 32 → ℝ) : Prop :=
  ∀ k, k ≠ code e n → dist e n (code e n) + 1 / 125000 ≤ dist e n k

/-- A token clear of a tie by distances is so by scores. -/
theorem Clear.score {e : Fin 512 → Fin 32 → ℝ} {n : Fin 32 → ℝ} (h : Clear e n) (k : Fin 512) (hk : k ≠ code e n) :
    Model.score e n (code e n) + 1 / 125000 ≤ Model.score e n k := by
  have := h k hk
  rw [dist_eq, dist_eq] at this
  linarith

/-! ## The results -/

/-- A use count's contribution to the entropy, from the number of uses among the 4096 tokens. -/
def entropyTerm (h : ℝ) : ℝ := h / 4096 * Real.log (h / 4096 + tiny)

/-- The exponential of the entropy of use counts. -/
def spread (h : Fin 512 → ℝ) : ℝ := Real.exp (-∑ k, entropyTerm (h k))

/-- One where a condition holds, otherwise zero. -/
def indicator (p : Prop) [Decidable p] : ℝ := if p then 1 else 0

/-- How many of a block's tokens are nearest to a code. -/
def uses (e : Fin 512 → Fin 32 → ℝ) (n : Fin 1024 → Fin 32 → ℝ) (k : Fin 512) : ℝ := ∑ t, indicator (k = code e (n t))

/-- A count is not negative. -/
theorem uses_nonneg (e : Fin 512 → Fin 32 → ℝ) (n : Fin 1024 → Fin 32 → ℝ) (k : Fin 512) : 0 ≤ uses e n k :=
  Finset.sum_nonneg fun t _ => by unfold indicator; split <;> norm_num

/-- A block's squared error. -/
def err (e : Fin 512 → Fin 32 → ℝ) (n : Fin 1024 → Fin 32 → ℝ) : ℝ :=
  total fun t o => (e (code e (n t)) o - n t o) * (e (code e (n t)) o - n t o)

end Cert.Model

end
-- ==== Proof.Least.lean ====
/- The least of 512 values and the first place it is taken, as the programs compute them. -/
module

public import proofs.«01_k».proof.Proof.Model
public import proofs.«01_k».proof.Proof.RefRun
public import Idealize.ShloMosaic.Lib.ValueIdxCore
public import Idealize.ShloMosaic.Lib.SortNet.Extract

@[expose] public section

noncomputable section

namespace Cert.Least

open Idealize.ShloMosaic Cert.Model

/-- The least of the values is the value at the first least place. -/
theorem fold_min {f : Fin 512 → ℝ} {k : Fin 512} (h : IsFirst f k) :
    (Finset.univ.fold min (⊤ : EReal) fun j => (f j : EReal)) = (f k : EReal) :=
  le_antisymm (Finset.inf_le (f := fun j => (f j : EReal)) (Finset.mem_univ k))
    (Finset.le_inf (f := fun j => (f j : EReal)) fun j _ => EReal.coe_le_coe_iff.mpr (h.1 j))

/-- A code's number as a word, read signed. -/
theorem toInt_code (k : Fin 512) : (BitVec.ofNat 32 k.val).toInt = k.val := by
  have := k.isLt
  rw [BitVec.toInt_eq_toNat_of_lt (by simp; omega)]
  simp; omega

/-- Places below 512 are told apart as 32-bit words. -/
theorem ofNat_inj {i j : Fin 512} : BitVec.ofNat 32 i.val = BitVec.ofNat 32 j.val ↔ i = j :=
  ⟨fun h => Fin.ext (by have := congrArg BitVec.toInt h; rw [toInt_code, toInt_code] at this; exact_mod_cast this),
    fun h => by rw [h]⟩

/-- The signed minimum of some words and a bound is one of them or the bound, and no more than any of them. -/
theorem fold_minsi {ι : Type*} (s : Finset ι) (b : BitVec 32) (g : ι → BitVec 32) :
    (s.fold IntOp.minsi b g = b ∨ ∃ i ∈ s, s.fold IntOp.minsi b g = g i)
      ∧ ∀ i ∈ s, (s.fold IntOp.minsi b g).toInt ≤ (g i).toInt := by
  classical
  induction s using Finset.induction_on with
  | empty => exact ⟨.inl rfl, by simp⟩
  | insert a s ha ih =>
    rw [Finset.fold_insert ha]
    have hm := SortNet.toInt_minsi (g a) (s.fold IntOp.minsi b g)
    have hor : IntOp.minsi (g a) (s.fold IntOp.minsi b g) = g a
        ∨ IntOp.minsi (g a) (s.fold IntOp.minsi b g) = s.fold IntOp.minsi b g := by
      show (if _ then _ else _) = _ ∨ (if _ then _ else _) = _
      split <;> simp
    refine ⟨?_, fun i hi => ?_⟩
    · rcases hor with h | h
      · exact .inr ⟨a, Finset.mem_insert_self _ _, h⟩
      · rw [h]
        rcases ih.1 with h' | ⟨i, hi, h'⟩
        · exact .inl h'
        · exact .inr ⟨i, Finset.mem_insert_of_mem hi, h'⟩
    · rw [hm]
      rcases Finset.mem_insert.mp hi with rfl | hi
      · exact min_le_left _ _
      · exact (min_le_right _ _).trans (ih.2 i hi)

/-- The least number of a code at which a condition holds that the first least place satisfies and that only least
    places satisfy is that place. -/
theorem fold_first {f : Fin 512 → ℝ} {k : Fin 512} (h : IsFirst f k) (c : Fin 512 → BitVec 1) (hk : c k = 1#1)
    (hc : ∀ j, c j = 1#1 → f j ≤ f k) :
    (Finset.univ.fold IntOp.minsi 2147483647#32 fun j : Fin 512 => Scalar.select (c j) (BitVec.ofNat 32 j.val) 512#32)
      = BitVec.ofNat 32 k.val := by
  obtain ⟨hmem, hle⟩ := fold_minsi Finset.univ 2147483647#32
    fun j : Fin 512 => Scalar.select (c j) (BitVec.ofNat 32 j.val) 512#32
  have hk' := hle k (Finset.mem_univ _)
  simp only [hk, ValueIdx.select_one, toInt_code] at hk'
  have hlt := k.isLt
  rcases hmem with hb | ⟨j, -, hj⟩
  · rw [hb] at hk'
    rw [show (2147483647#32).toInt = 2147483647 from by decide] at hk'
    omega
  · rw [hj] at hk' ⊢
    by_cases hcj : c j = 1#1
    · simp only [hcj, ValueIdx.select_one, toInt_code] at hk' ⊢
      have hjk : j ≤ k := Fin.le_def.mpr (by omega)
      rcases lt_or_eq_of_le hjk with hlt' | rfl
      · exact absurd (h.2 j hlt') (not_lt.mpr (hc j hcj))
      · rfl
    · simp only [ValueIdx.eq_zero_of_ne_one hcj, ValueIdx.select_zero] at hk'
      rw [show (512#32).toInt = 512 from by decide] at hk'
      omega

/-! ## The gap to the second least value -/

/-- The least of the values other than one, as both programs take it: that one replaced by infinity. -/
def second (f : Fin 512 → ℝ) (k : Fin 512) : EReal :=
  Finset.univ.fold min (⊤ : EReal) fun j => if j = k then ⊤ else (f j : EReal)

/-- The second least is at most any value but the least's. -/
theorem second_le (f : Fin 512 → ℝ) {k j : Fin 512} (h : j ≠ k) : second f k ≤ (f j : EReal) :=
  (Finset.inf_le (f := fun j => if j = k then ⊤ else (f j : EReal)) (Finset.mem_univ j)).trans (by simp [h])

/-- If the gap to the second least value, scaled, is at least one, every other value exceeds the least by 1/125000. -/
theorem clear_of_gap (f : Fin 512 → ℝ) (k : Fin 512)
    (h : ((1 : ℝ) : EReal) ≤ (second f k - (f k : EReal)) * ((125000 : ℝ) : EReal)) (j : Fin 512) (hj : j ≠ k) :
    f k + 1 / 125000 ≤ f j := by
  have hle := second_le f hj
  revert h hle
  induction second f k with
  | bot =>
    intro h _
    rw [EReal.bot_sub, EReal.bot_mul_coe_of_pos (by norm_num)] at h
    exact absurd (le_bot_iff.mp h) (EReal.coe_ne_bot _)
  | top => intro _ h; exact absurd (top_le_iff.mp h) (EReal.coe_ne_top _)
  | coe r =>
    intro h hle
    have hr : (1 : ℝ) ≤ (r - f k) * 125000 := by exact_mod_cast h
    have hr' : r ≤ f j := by exact_mod_cast hle
    linarith

/-- Conversely the gap as the kernel scales and caps it is then one. -/
theorem lean_of_clear (f : Fin 512 → ℝ) (k : Fin 512) (h : ∀ j, j ≠ k → f k + 1 / 125000 ≤ f j) :
    min (((1 / 2 : ℝ) : EReal) + max ((second f k - (f k : EReal)) * ((62500 : ℝ) : EReal)) ((0 : ℝ) : EReal)) ((1 : ℝ) : EReal)
      = ((1 : ℝ) : EReal) := by
  refine min_eq_right ?_
  have hle : ((f k + 1 / 125000 : ℝ) : EReal) ≤ second f k :=
    Finset.le_inf (f := fun j => if j = k then ⊤ else (f j : EReal)) fun j _ => by
      by_cases hj : j = k
      · simp [hj]
      · simp only [hj, if_false]; exact EReal.coe_le_coe_iff.mpr (h j hj)
  have hgap : ((1 / 2 : ℝ) : EReal) ≤ (second f k - (f k : EReal)) * ((62500 : ℝ) : EReal) := by
    revert hle
    induction second f k with
    | bot => intro hle; exact absurd (le_bot_iff.mp hle) (EReal.coe_ne_bot _)
    | top =>
      intro _
      rw [EReal.top_sub_coe, EReal.top_mul_coe_of_pos (by norm_num)]
      exact le_top
    | coe r =>
      intro hle
      have hr : f k + 1 / 125000 ≤ r := by exact_mod_cast hle
      rw [← EReal.coe_sub, ← EReal.coe_mul, EReal.coe_le_coe_iff]
      linarith
  calc ((1 : ℝ) : EReal) = ((1 / 2 : ℝ) : EReal) + ((1 / 2 : ℝ) : EReal) := by
        rw [← EReal.coe_add]; norm_num
    _ ≤ _ := add_le_add le_rfl (hgap.trans (le_max_left _ _))

/-! ## The reference's argmin -/

/-- One pair of a value and a number comes before another: its value is less, or equal with no greater number. -/
def Before (p q : EReal × BitVec 32) : Prop := p.1 < q.1 ∨ (p.1 = q.1 ∧ p.2.toInt ≤ q.2.toInt)

/-- Every pair comes before itself, -/
theorem Before.refl (p : EReal × BitVec 32) : Before p p := .inr ⟨rfl, le_rfl⟩

/-- and coming before is transitive. -/
theorem Before.trans {p q r : EReal × BitVec 32} (h : Before p q) (h' : Before q r) : Before p r := by
  rcases h with h | ⟨h, h2⟩ <;> rcases h' with h' | ⟨h', h2'⟩
  · exact .inl (h.trans h')
  · exact .inl (h' ▸ h)
  · exact .inl (h ▸ h')
  · exact .inr ⟨h.trans h', h2.trans h2'⟩

/-- The reference's reduction body keeps one of two pairs, one that comes before both. -/
theorem reducer_spec (a b : EReal × BitVec 32) :
    (ReferenceIdeal.reducer_argmin_f32_i32 (F := Ideal) a b = a ∨ ReferenceIdeal.reducer_argmin_f32_i32 (F := Ideal) a b = b)
      ∧ Before (ReferenceIdeal.reducer_argmin_f32_i32 (F := Ideal) a b) a
      ∧ Before (ReferenceIdeal.reducer_argmin_f32_i32 (F := Ideal) a b) b := by
  obtain ⟨x, i⟩ := a
  obtain ⟨y, j⟩ := b
  have key : ReferenceIdeal.reducer_argmin_f32_i32 (F := Ideal) (x, i) (y, j)
      = (if x < y then x else y, if x < y ∨ (x = y ∧ i.toInt < j.toInt) then i else j) := by
    simp only [ReferenceIdeal.reducer_argmin_f32_i32, Ideal.cmpf_def, Ideal.cmp, ne_eq, not_true_eq_false, decide_false]
    have hs : IntOp.cmpi .slt i j = BitVec.ofBool (decide (i.toInt < j.toInt)) := rfl
    rw [hs]
    by_cases h1 : x < y <;> by_cases h2 : x = y <;> by_cases h3 : i.toInt < j.toInt <;>
      simp [h1, h2, h3, IntOp.ori, IntOp.andi, Scalar.select]
  rw [key]
  by_cases h1 : x < y
  · rw [if_pos h1, if_pos (.inl h1)]
    exact ⟨.inl rfl, .refl _, .inl h1⟩
  · by_cases h2 : x = y
    · subst h2
      by_cases h3 : i.toInt < j.toInt
      · have hc : x < x ∨ x = x ∧ i.toInt < j.toInt := .inr ⟨rfl, h3⟩
        rw [ite_self, if_pos hc]
        exact ⟨.inl rfl, .refl _, .inr ⟨rfl, h3.le⟩⟩
      · have hc : ¬(x < x ∨ x = x ∧ i.toInt < j.toInt) := by simp [h3]
        rw [ite_self, if_neg hc]
        exact ⟨.inr rfl, .inr ⟨rfl, not_lt.mp h3⟩, .refl _⟩
    · rw [if_neg h1, if_neg (by simp [h1, h2])]
      exact ⟨.inr rfl, .inl (lt_of_le_of_ne (not_lt.mp h1) (Ne.symm h2)), .refl _⟩

/-- So the reduction of a list of pairs from a first one is one of them, and comes before all of them. -/
theorem foldl_spec (l : List (EReal × BitVec 32)) (a : EReal × BitVec 32) :
    (l.foldl (ReferenceIdeal.reducer_argmin_f32_i32 (F := Ideal)) a = a
        ∨ l.foldl (ReferenceIdeal.reducer_argmin_f32_i32 (F := Ideal)) a ∈ l)
      ∧ Before (l.foldl (ReferenceIdeal.reducer_argmin_f32_i32 (F := Ideal)) a) a
      ∧ ∀ p ∈ l, Before (l.foldl (ReferenceIdeal.reducer_argmin_f32_i32 (F := Ideal)) a) p := by
  induction l generalizing a with
  | nil => exact ⟨.inl rfl, .refl _, by simp⟩
  | cons b l ih =>
    obtain ⟨hm, ha, hb⟩ := reducer_spec a b
    obtain ⟨im, ia, il⟩ := ih (ReferenceIdeal.reducer_argmin_f32_i32 (F := Ideal) a b)
    rw [List.foldl_cons]
    refine ⟨?_, ia.trans ha, fun p hp => ?_⟩
    · rcases im with h | h
      · rw [h]
        rcases hm with h' | h'
        · exact .inl h'
        · exact .inr (by rw [h']; exact List.mem_cons_self)
      · exact .inr (List.mem_cons_of_mem _ h)
    · rcases List.mem_cons.mp hp with rfl | hp
      · exact ia.trans hb
      · exact il p hp

/-- The pairs a reduction over one axis folds at a result index: one for each coordinate of that axis. -/
theorem mem_fiber {s t : Shape} {a : Fin s.rank} {α β : Type} (h' : s.ReducesTo [a] t) (h : s.Reduces [a] t)
    (x : s.Idx → α) (y : s.Idx → β) (j : t.Idx) (p : α × β) :
    p ∈ Host.argReduceFiber x y h' j ↔ ∃ k, p = (x (h.lift j k), y (h.lift j k)) := by
  unfold Host.argReduceFiber
  rw [List.mem_map]
  constructor
  · rintro ⟨n, hn, rfl⟩
    have hdrop : h.drop (s.rowMajor.symm n) = j := of_decide_eq_true (List.mem_filter.mp hn).2
    exact ⟨s.rowMajor.symm n a, by rw [← hdrop, h.lift_drop]⟩
  · rintro ⟨k, rfl⟩
    refine ⟨s.rowMajor (h.lift j k), List.mem_filter.mpr ⟨List.mem_finRange _, decide_eq_true ?_⟩, ?_⟩
    · rw [Equiv.symm_apply_apply]; exact h.drop_lift j k
    · rw [Equiv.symm_apply_apply]

/-- A list of pairs of the values and their places, all of them there, reduced from infinity: the first least place. -/
theorem foldl_first (l : List (EReal × BitVec 32)) (f : Fin 512 → ℝ)
    (hl : ∀ p, p ∈ l ↔ ∃ j : Fin 512, p = ((f j : EReal), BitVec.ofNat 32 j.val)) {k : Fin 512} (h : IsFirst f k) :
    (l.foldl (ReferenceIdeal.reducer_argmin_f32_i32 (F := Ideal)) ((⊤ : EReal), 0#32)).2 = BitVec.ofNat 32 k.val := by
  obtain ⟨hm, -, hall⟩ := foldl_spec l (⊤, 0#32)
  have hk := hall _ ((hl _).mpr ⟨k, rfl⟩)
  rcases hm with hm | hm
  · rw [hm] at hk
    rcases hk with hk | ⟨hk, -⟩
    · exact absurd hk not_top_lt
    · exact absurd hk.symm (EReal.coe_ne_top _)
  · obtain ⟨j, hj⟩ := (hl _).mp hm
    rw [hj] at hk ⊢
    simp only [Before, EReal.coe_lt_coe_iff, EReal.coe_eq_coe_iff, toInt_code] at hk
    rcases hk with hk | ⟨hk, hjk⟩
    · exact absurd hk (not_lt.mpr (h.1 j))
    · rcases lt_or_eq_of_le (Fin.le_def.mpr (by omega) : j ≤ k) with hlt | rfl
      · exact absurd (h.2 j hlt) (not_lt.mpr hk.le)
      · rfl

/-- A reduction to the first least pair over one axis, whatever the shapes. -/
theorem argReduce_first {s t u : Shape} {a : Fin s.rank} (h' : s.ReducesTo [a] t) (h : s.Reduces [a] t)
    (x : FVec Ideal s .f32) (y : IVec s 32) (ix : FVec Ideal u .f32) (iy : IVec u 32) (hu : 0 < u.numel)
    (hx : ix (Shape.Idx.first hu) = (⊤ : EReal)) (hy : iy (Shape.Idx.first hu) = 0#32) (j : t.Idx) (f : Fin 512 → ℝ)
    (hp : ∀ p : EReal × BitVec 32, (∃ k, p = (x (h.lift j k), y (h.lift j k)))
      ↔ ∃ k : Fin 512, p = ((f k : EReal), BitVec.ofNat 32 k.val)) {k : Fin 512} (hk : IsFirst f k) :
    (Host.argReduce (ReferenceIdeal.reducer_argmin_f32_i32 (F := Ideal)) x y ix iy h' hu j).2 = BitVec.ofNat 32 k.val := by
  rw [Ideal.argReduce_eq_reduce2, Host.reduce2_eq_foldl_fiber, hx, hy]
  exact foldl_first _ f (fun p => (mem_fiber h' h x y j p).trans (hp p)) hk

open ValueIdx in
/-- The index a reduction over the codes reads at a code. -/
theorem lift_code (h : ReferenceIdeal.S512x4x1024x2.Reduces [0] ReferenceIdeal.S4x1024x2) (b : Fin 4) (t : Fin 1024)
    (g : Fin 2) (j : Fin 512) : h.lift (ix3 b t g) j = ix4 j b t g := by
  funext a; match a with | ⟨0, _⟩ => rfl | ⟨1, _⟩ => rfl | ⟨2, _⟩ => rfl | ⟨3, _⟩ => rfl

open ValueIdx in
/-- A code's number where the programs count the codes. -/
theorem iota_code (k : Fin 512) (b : Fin 4) (t : Fin 1024) (g : Fin 2) :
    iotaInDim ReferenceIdeal.S512x4x1024x2 32 0 (ix4 k b t g) = BitVec.ofNat 32 k.val := rfl

open ValueIdx in
/-- The pair of a code. -/
theorem pair_code (d : FVec Ideal ReferenceIdeal.S512x4x1024x2 .f32) (b : Fin 4) (t : Fin 1024) (g : Fin 2)
    (f : Fin 512 → ℝ) (hd : ∀ k, d (ix4 k b t g) = (f k : EReal))
    (h : ReferenceIdeal.S512x4x1024x2.Reduces [0] ReferenceIdeal.S4x1024x2) (j : Fin 512) :
    (d (h.lift (ix3 b t g) j), iotaInDim ReferenceIdeal.S512x4x1024x2 32 0 (h.lift (ix3 b t g) j))
      = ((f j : EReal), BitVec.ofNat 32 j.val) := by
  have e := lift_code h b t g j
  generalize h.lift (ix3 b t g) j = i at e
  subst e
  exact Prod.ext (hd j) (iota_code j b t g)

/-- The reference's argmin, written out. -/
theorem argmin_eq (d : FVec Ideal ReferenceIdeal.S512x4x1024x2 .f32) : Ref.argmin d = fun j =>
    (Host.argReduce (ReferenceIdeal.reducer_argmin_f32_i32 (F := Ideal)) d
      (iotaInDim ReferenceIdeal.S512x4x1024x2 32 0) (constant ReferenceIdeal.S_ .f32 0x7F800000#32)
      (constantI ReferenceIdeal.S_ 32 0#32) ReferenceIdeal.Gen.reducesTo_S512x4x1024x2_S4x1024x2_d0
      ReferenceIdeal.Gen.h_S_ j).2 := rfl

open ValueIdx in
/-- The reference's argmin, where the values are reals: the number of the first least. -/
theorem argmin_apply (d : FVec Ideal ReferenceIdeal.S512x4x1024x2 .f32) (b : Fin 4) (t : Fin 1024) (g : Fin 2)
    (f : Fin 512 → ℝ) (hd : ∀ k, d (ix4 k b t g) = (f k : EReal)) {k : Fin 512} (h : IsFirst f k) :
    Ref.argmin d (ix3 b t g) = BitVec.ofNat 32 k.val := by
  have hr : ReferenceIdeal.S512x4x1024x2.Reduces [0] ReferenceIdeal.S4x1024x2 := by decide
  refine (congrFun (argmin_eq d) _).trans (argReduce_first ReferenceIdeal.Gen.reducesTo_S512x4x1024x2_S4x1024x2_d0 hr d
    (iotaInDim ReferenceIdeal.S512x4x1024x2 32 0) (constant ReferenceIdeal.S_ .f32 0x7F800000#32)
    (constantI ReferenceIdeal.S_ 32 0#32) ReferenceIdeal.Gen.h_S_ word_top rfl (ix3 b t g) f (fun p => ?_) h)
  constructor
  · rintro ⟨j, rfl⟩
    exact ⟨j, pair_code d b t g f hd hr j⟩
  · rintro ⟨j, rfl⟩
    exact ⟨j, (pair_code d b t g f hd hr j).symm⟩

end Cert.Least

end
-- ==== Proof.BlockRead.lean ====
/- What one block of the kernel computes over the extended reals, when its inputs are real numbers: the real functions
   of `Cert.Model`. -/
module

public import proofs.«01_k».proof.Proof.Block
public import proofs.«01_k».proof.Proof.Least
public import Idealize.ShloMosaic.Lib.Pointwise

@[expose] public section

set_option maxRecDepth 16384

noncomputable section

namespace Cert.BlockRead

open Idealize.ShloMosaic Cert.Model Cert.Least Cert.KernelIdeal Cert.KernelIdeal.Gen

/-! ## The tokens -/

section Tokens

variable {z : FVec Ideal S1024x32 .f32} {Z : Fin 1024 → Fin 32 → ℝ} (hz : ∀ t o, z (ix2 t o) = (Z t o : EReal))

/-- The convolution. -/
theorem conv_apply {x : Vec Ideal S1x1024x32 .f32} {w : Vec Ideal S1x32x32 .f32} {X : Fin 1024 → Fin 32 → ℝ}
    {W : Fin 32 → Fin 32 → ℝ} (hx : ∀ t c, x (ix3 0 t c) = (X t c : EReal)) (hw : ∀ o c, w (ix3 0 o c) = (W o c : EReal))
    (t : Fin 1024) (o : Fin 32) : Block.conv w x (ix2 t o) = (Model.conv X W t o : EReal) := by
  pointwise [Block.conv, dot_S1024x32_S32x32_S1024x32_1_1_0_0_n_n]
  simp only [hx, hw, ← EReal.coe_mul, ← coe_sum]
  rfl

include hz

/-- A block's total. -/
theorem total_apply : Block.total z = (Model.total Z : EReal) := by
  pointwise [Block.total]
  simp only [hz, ← coe_sum]
  rfl

/-- A block's mean. -/
theorem mean_apply : Block.mean z = (Model.mean Z : EReal) := by
  show Ideal.div (Block.total z) (Ideal.ofBits .f32 0x47000000#32) = _
  rw [total_apply hz, word_size, div_coe _ _ (by norm_num)]
  rfl

/-- An entry less the mean. -/
theorem centred_apply (t : Fin 1024) (o : Fin 32) :
    Block.centred z (ix2 t o) = ((Z t o - Model.mean Z : ℝ) : EReal) := by
  show z (ix2 t o) - Block.mean z = _
  rw [hz, mean_apply hz, ← EReal.coe_sub]

/-- A block's variance. -/
theorem variance_apply : Block.variance z = (Model.variance Z : EReal) :=
  mean_apply (z := mulf (Block.centred z) (Block.centred z)) fun t o => by
    show Block.centred z (ix2 t o) * Block.centred z (ix2 t o) = _
    rw [centred_apply hz, ← EReal.coe_mul]

/-- The root of the variance and the small constant. -/
theorem root_apply : Scalar.sqrt (Scalar.addf (Block.variance z) (Scalar.ofBits .f32 0x3727C5AC#32))
    = ((Real.sqrt (Model.variance Z + eps) : ℝ) : EReal) := by
  show Ideal.sqrt (Block.variance z + Ideal.ofBits .f32 0x3727C5AC#32) = _
  rw [variance_apply hz, word_eps, ← EReal.coe_add, sqrt_coe _ (add_nonneg (variance_nonneg Z) eps_pos.le)]

/-- The normalised entries, scaled and shifted. -/
theorem norm_apply {gw gb : Vec Ideal S1x1x32 .f32} {GW GB : Fin 32 → ℝ} (hw : ∀ o, gw (ix3 0 0 o) = (GW o : EReal))
    (hb : ∀ o, gb (ix3 0 0 o) = (GB o : EReal)) (t : Fin 1024) (o : Fin 32) :
    Block.norm z gw gb (ix2 t o) = (Model.norm Z GW GB t o : EReal) := by
  unfold Block.norm
  rw [root_apply hz]
  pointwise
  rw [centred_apply hz, hw, hb, div_coe _ _ (sqrt_ne Z), ← EReal.coe_mul, ← EReal.coe_add]
  rfl

end Tokens

/-- A block's tokens are the model's. -/
theorem tokens_apply {x : Vec Ideal S1x1024x32 .f32} {w : Vec Ideal S1x32x32 .f32} {gw gb : Vec Ideal S1x1x32 .f32}
    {X : Fin 1024 → Fin 32 → ℝ} {W : Fin 32 → Fin 32 → ℝ} {GW GB : Fin 32 → ℝ}
    (hx : ∀ t c, x (ix3 0 t c) = (X t c : EReal)) (hw : ∀ o c, w (ix3 0 o c) = (W o c : EReal))
    (hgw : ∀ o, gw (ix3 0 0 o) = (GW o : EReal)) (hgb : ∀ o, gb (ix3 0 0 o) = (GB o : EReal)) (t : Fin 1024) (o : Fin 32) :
    Block.tokens x w gw gb (ix2 t o) = (Model.norm (Model.conv X W) GW GB t o : EReal) :=
  norm_apply (conv_apply hx hw) hgw hgb t o

/-! ## The nearest code, from scores -/

section Scores

variable {s : FVec Ideal S512x1024 .f32} {t : Fin 1024} {f : Fin 512 → ℝ} (hs : ∀ k, s (ix2 k t) = (f k : EReal))
  {k₀ : Fin 512} (h₀ : IsFirst f k₀)

include hs h₀

/-- The least of a token's scores. -/
theorem least_apply : Block.least s (ix2 0 t) = (f k₀ : EReal) := by
  pointwise [Block.least]
  simp only [hs, word_top]
  exact fold_min h₀

/-- The first place at which it is taken. -/
theorem first_apply : Block.first s (ix2 0 t) = BitVec.ofNat 32 k₀.val := by
  pointwise [Block.first, Block.codes]
  rw [← fold_first h₀ (fun j => BitVec.ofBool (decide (f j ≤ f k₀))) (by simp) (fun j hj => by
    by_contra hn
    simp [hn] at hj)]
  refine Finset.fold_congr fun j _ => ?_
  simp only [hs, least_apply hs h₀, EReal.coe_le_coe_iff]
  by_cases hj : f j ≤ f k₀ <;> simp [hj, Scalar.select]

omit hs h₀ in
/-- The mark of a code number is one at that code and zero elsewhere. -/
theorem mark_apply {i : IVec S1x1024 32} {j : Fin 512} (hi : i (ix2 0 t) = BitVec.ofNat 32 j.val) (k : Fin 512) :
    Block.mark (F := Ideal) i (ix2 k t) = (indicator (k = j) : EReal) := by
  pointwise [Block.mark, Block.codes]
  rw [hi]
  show (((BitVec.setWidth 32 (BitVec.ofBool (BitVec.ofNat 32 k.val == BitVec.ofNat 32 j.val))).toInt : ℝ) : EReal) = _
  unfold indicator
  by_cases h : k = j
  · subst h; simp
  · have hne : (BitVec.ofNat 32 k.val == BitVec.ofNat 32 j.val) = false :=
      beq_eq_false_iff_ne.mpr fun e => h (ofNat_inj.mp e)
    rw [hne, if_neg h]
    simp

/-- The scores with that place's replaced by infinity. -/
theorem others_apply (k : Fin 512) : Block.others s (ix2 k t) = if k = k₀ then ⊤ else (f k : EReal) := by
  pointwise [Block.others]
  rw [mark_apply (first_apply hs h₀), hs, word_top]
  unfold indicator
  by_cases h : k = k₀ <;> simp [h]

/-- The least of the others. -/
theorem second_apply : Block.least (Block.others s) (ix2 0 t) = second f k₀ := by
  pointwise [Block.least]
  simp only [others_apply hs h₀, word_top]
  rfl

/-- Where every other score is at least 8e-6 above the least, the nearest code's weight is one, -/
theorem weight_apply (hc : ∀ j, j ≠ k₀ → f k₀ + 1 / 125000 ≤ f j) : Block.weight s (ix2 0 t) = 1 := by
  have hl : Block.lean s (ix2 0 t) = 1 := by
    pointwise [Block.lean]
    rw [second_apply hs h₀, least_apply hs h₀, word_half, word_slope]
    have := lean_of_clear f k₀ hc
    rwa [EReal.coe_zero, EReal.coe_one] at this
  pointwise [Block.weight]
  rw [hl]
  simp

/-- and the weights are the nearest code's mark. -/
theorem mix_apply (hc : ∀ j, j ≠ k₀ → f k₀ + 1 / 125000 ≤ f j) (k : Fin 512) :
    Block.mix s (ix2 k t) = (indicator (k = k₀) : EReal) := by
  pointwise [Block.mix]
  rw [weight_apply hs h₀ hc, mark_apply (first_apply hs h₀)]
  have h1 : (1 : EReal) - 1 = 0 := by rw [← EReal.coe_one, ← EReal.coe_sub, sub_self, EReal.coe_zero]
  rw [h1, mul_zero, add_zero, mul_one]

end Scores

/-! ## The results of a block -/

section Results

variable {e : Vec Ideal S1x512x32 .f32} {z : FVec Ideal S1024x32 .f32} {E : Fin 512 → Fin 32 → ℝ}
  {Z : Fin 1024 → Fin 32 → ℝ} (he : ∀ k c, e (ix3 0 k c) = (E k c : EReal)) (hz : ∀ t o, z (ix2 t o) = (Z t o : EReal))

include he hz

/-- A code's score for a token. -/
theorem score_apply (k : Fin 512) (t : Fin 1024) : Block.score e z (ix2 k t) = (Model.score E (Z t) k : EReal) := by
  pointwise [Block.score, Block.book, dot_S512x32_S1024x32_S512x1024_1_1_0_0_n_n]
  simp only [he, hz, word_two, ← EReal.coe_mul, ← coe_sum, ← EReal.coe_sub]
  rfl

/-- A token clear of the other codes is quantised to its nearest code. -/
theorem quant_apply (t : Fin 1024) (hc : Clear E (Z t)) (o : Fin 32) :
    Block.quant e z (ix2 t o) = (E (code E (Z t)) o : EReal) := by
  pointwise [Block.quant, Block.book, dot_S512x1024_S512x32_S1024x32_0_0_1_1_n_n]
  simp only [mix_apply (fun k => score_apply he hz k t) (code_score E (Z t)) hc.score, he, ← EReal.coe_mul, ← coe_sum]
  refine congrArg _ ?_
  unfold indicator
  simp

/-- The squared error of a block of such tokens. -/
theorem err_apply (hc : ∀ t, Clear E (Z t)) : Block.err e z = (Model.err E Z : EReal) :=
  total_apply (z := mulf (subf (Block.quant e z) z) (subf (Block.quant e z) z)) fun t o => by
    show (Block.quant e z (ix2 t o) - z (ix2 t o)) * (Block.quant e z (ix2 t o) - z (ix2 t o)) = _
    rw [quant_apply he hz t (hc t), hz, ← EReal.coe_sub, ← EReal.coe_mul]

/-- How many tokens of a block are nearest to a code. -/
theorem uses_apply (k : Fin 512) : Block.uses e z (ix2 k 0) = (Model.uses E Z k : EReal) := by
  pointwise [Block.uses]
  simp only [fun t => mark_apply (t := t) (first_apply (fun k => score_apply he hz k t) (code_score E (Z t))) k, ← coe_sum]
  rfl

end Results

/-! ## The perplexity -/

/-- A count as a share of the tokens. -/
theorem share_apply {h : FVec Ideal S512x1 .f32} {H : Fin 512 → ℝ} (hh : ∀ k, h (ix2 k 0) = (H k : EReal)) (k : Fin 512) :
    Block.share h (ix2 k 0) = ((H k / 4096 : ℝ) : EReal) := by
  show h (ix2 k 0) * Ideal.ofBits .f32 0x39800000#32 = _
  rw [hh, word_tokens_inv, ← EReal.coe_mul]
  refine congrArg _ ?_
  ring

/-- The exponential of the shares' entropy. -/
theorem spread_apply {h : FVec Ideal S512x1 .f32} {H : Fin 512 → ℝ} (hh : ∀ k, h (ix2 k 0) = (H k : EReal))
    (h0 : ∀ k, 0 ≤ H k) : Block.spread (Block.share h) = (Model.spread H : EReal) := by
  have hexp : ∀ x : EReal, Scalar.exp (F := Ideal) (φ := .f32) x = Ideal.exp x := fun _ => rfl
  pointwise [Block.spread]
  simp only [share_apply hh, word_tiny, ← EReal.coe_add,
    log_coe _ (add_pos_of_nonneg_of_pos (div_nonneg (h0 _) (by norm_num : (0 : ℝ) ≤ 4096)) tiny_pos), ← EReal.coe_mul, ← coe_sum]
  rw [hexp, ← EReal.coe_zero, ← EReal.coe_sub, Ideal.exp_coe]
  refine congrArg _ (congrArg Real.exp ?_)
  simp [entropyTerm]

end Cert.BlockRead

end
-- ==== Proof.Whole.lean ====
/- The three results over the real numbers, from real inputs: the blocks of `Cert.Model` put together. -/
module

public import proofs.«01_k».proof.Proof.Model
public import Idealize.ShloMosaic.Lib.Pointwise

@[expose] public section

noncomputable section

namespace Cert.Whole

open Idealize.ShloMosaic Cert.Model

/-- Channel `o` of group `g`. -/
def chan (g : Fin 2) (o : Fin 32) : Fin 64 := ⟨g.val * 32 + o.val, by omega⟩

/-- The group of a channel, -/
def grp (c : Fin 64) : Fin 2 := ⟨c.val / 32, by omega⟩

/-- and its place there. -/
def pos (c : Fin 64) : Fin 32 := ⟨c.val % 32, by omega⟩

/-- A channel is the one of its group and place. -/
theorem chan_grp (c : Fin 64) : chan (grp c) (pos c) = c := Fin.ext (by simp only [chan, grp, pos]; omega)

/-- The group of a group's channel. -/
theorem grp_chan (g : Fin 2) (o : Fin 32) : grp (chan g o) = g := Fin.ext (by simp only [chan, grp]; omega)

/-- The place of a group's channel. -/
theorem pos_chan (g : Fin 2) (o : Fin 32) : pos (chan g o) = o := Fin.ext (by simp only [chan, pos]; omega)

/-- The five inputs as real functions. -/
structure Inputs where
  x : Fin 4 → Fin 1024 → Fin 64 → ℝ
  e : Fin 512 → Fin 2 → Fin 32 → ℝ
  w : Fin 64 → Fin 32 → ℝ
  gw : Fin 64 → ℝ
  gb : Fin 64 → ℝ

namespace Inputs

variable (I : Inputs)

/-- A group's codebook. -/
def book (g : Fin 2) : Fin 512 → Fin 32 → ℝ := fun k c => I.e k g c

/-- The convolution of a batch entry's group of channels. -/
def conv (b : Fin 4) (g : Fin 2) : Fin 1024 → Fin 32 → ℝ :=
  Model.conv (fun t c => I.x b t (chan g c)) fun o c => I.w (chan g o) c

/-- The tokens of a batch entry and a group. -/
def tok (b : Fin 4) (g : Fin 2) : Fin 1024 → Fin 32 → ℝ :=
  Model.norm (I.conv b g) (fun o => I.gw (chan g o)) fun o => I.gb (chan g o)

/-- A token's nearest code. -/
def near (b : Fin 4) (g : Fin 2) (t : Fin 1024) : Fin 512 := code (I.book g) (I.tok b g t)

/-- The quantised tokens. -/
def quant (b : Fin 4) (t : Fin 1024) (c : Fin 64) : ℝ := I.book (grp c) (I.near b (grp c) t) (pos c)

/-- How many tokens of a group are nearest to a code. -/
def uses (g : Fin 2) (k : Fin 512) : ℝ := ∑ b, Model.uses (I.book g) (I.tok b g) k

/-- The perplexity. -/
def ppl : ℝ := spread (I.uses 0) + spread (I.uses 1)

/-- The squared error. -/
def err : ℝ := ∑ b, ∑ g, Model.err (I.book g) (I.tok b g)

/-- The loss. -/
def loss : ℝ := I.err * (5 / 1048576)

/-- A count is not negative. -/
theorem uses_nonneg (g : Fin 2) (k : Fin 512) : 0 ≤ I.uses g k := Finset.sum_nonneg fun _ _ => Model.uses_nonneg _ _ _

/-- Arrays hold these inputs. -/
structure Held (a0 : FVec Ideal ⟨3, ![4, 1024, 64]⟩ .f32) (a1 : FVec Ideal ⟨3, ![512, 2, 32]⟩ .f32)
    (a2 : FVec Ideal ⟨3, ![64, 32, 1]⟩ .f32) (a3 a4 : FVec Ideal ⟨1, ![64]⟩ .f32) : Prop where
  x : ∀ b t c, a0 (ix3 b t c) = (I.x b t c : EReal)
  e : ∀ k g c, a1 (ix3 k g c) = (I.e k g c : EReal)
  w : ∀ o c, a2 (ix3 o c 0) = (I.w o c : EReal)
  gw : ∀ o, a3 (ix1 o) = (I.gw o : EReal)
  gb : ∀ o, a4 (ix1 o) = (I.gb o : EReal)

end Inputs

/-- A sum over the tokens of all entries, entry by entry. -/
theorem sum_tokens {M : Type*} [AddCommMonoid M] (f : Fin 4096 → M) :
    ∑ x, f x = ∑ b : Fin 4, ∑ t : Fin 1024, f ⟨b.val * 1024 + t.val, by omega⟩ := by
  rw [← Fintype.sum_prod_type', ← (finProdFinEquiv (m := 4) (n := 1024)).sum_comp]
  refine Fintype.sum_congr _ _ fun p => congrArg f (Fin.ext ?_)
  simp only [finProdFinEquiv_apply_val]
  omega

/-- A sum over the channels, group by group. -/
theorem sum_channels {M : Type*} [AddCommMonoid M] (f : Fin 64 → M) :
    ∑ c, f c = ∑ g : Fin 2, ∑ o : Fin 32, f (chan g o) := by
  rw [← Fintype.sum_prod_type', ← (finProdFinEquiv (m := 2) (n := 32)).sum_comp]
  refine Fintype.sum_congr _ _ fun p => congrArg f (Fin.ext ?_)
  simp only [finProdFinEquiv_apply_val, chan]
  omega

end Cert.Whole

end
-- ==== Proof.KernelRead.lean ====
/- What the kernel stores over the extended reals, when its five windows hold real numbers: the three results of
   `Cert.Whole`, the first at the tokens that are clear of a tie and the third when every token is. -/
module

public import proofs.«01_k».proof.Proof.BlockRead
public import proofs.«01_k».proof.Proof.Whole
public import Idealize.ShloMosaic.Lib.Pipeline.ValueKit.Geometry

@[expose] public section

set_option maxRecDepth 16384

noncomputable section

namespace Cert.KernelRead

open Idealize.ShloMosaic Cert.Model Cert.Whole Cert.KernelIdeal Cert.KernelIdeal.Gen

/-! ## Reading and writing at offsets -/

/-- A load at offsets reads the array at the index moved by them. -/
theorem ld_at {n₀ n₁ n₂ m₀ m₁ m₂ o₀ o₁ o₂ : ℕ} (x : Vec Ideal ⟨3, ![n₀, n₁, n₂]⟩ .f32)
    (inb : ∀ a, (![o₀, o₁, o₂] : Fin 3 → ℕ) a + (![m₀, m₁, m₂] : Fin 3 → ℕ) a ≤ (⟨3, ![n₀, n₁, n₂]⟩ : Shape).size a)
    {i : Fin m₀} {j : Fin m₁} {k : Fin m₂} {i' : Fin n₀} {j' : Fin n₁} {k' : Fin n₂} (hi : i'.val = o₀ + i.val)
    (hj : j'.val = o₁ + j.val) (hk : k'.val = o₂ + k.val) :
    View.ld x (Rect.unit (s := ⟨3, ![n₀, n₁, n₂]⟩) ![o₀, o₁, o₂] ![m₀, m₁, m₂] inb) (ix3 i j k) = x (ix3 i' j' k') := by
  refine congrArg x (funext fun a => Fin.ext ?_)
  match a with
  | 0 => show o₀ + 1 * i.val = i'.val; omega
  | 1 => show o₁ + 1 * j.val = j'.val; omega
  | 2 => show o₂ + 1 * k.val = k'.val; omega

/-- A batch entry's index is in its own row of the result, -/
theorem row_hit {n : ℕ} (b : Fin 4) (inb : ∀ a, (![n, 0, 0] : Fin 3 → ℕ) a + S1x1024x64.size a ≤ S4x1024x64.size a)
    (p : Vec Ideal S1x1024x64 .f32) (L) (t : Fin 1024) (c : Fin 64) (h : b.val = n) :
    View.canon (⟨Rect.unit (s := S4x1024x64) ![n, 0, 0] S1x1024x64.size inb, p⟩ :: L) (ix3 b t c) = p (ix3 0 t c) := by
  have e : (ix3 b t c : S4x1024x64.Idx)
      = (Rect.unit (s := S4x1024x64) ![n, 0, 0] S1x1024x64.size inb).emb (ix3 0 t c) := by
    refine funext fun a => Fin.ext ?_
    match a with
    | 0 => show b.val = n + 1 * 0; omega
    | 1 => show t.val = 0 + 1 * t.val; omega
    | 2 => show c.val = 0 + 1 * c.val; omega
  rw [e, View.canon_cons_emb]

/-- and in no other. -/
theorem row_miss {n : ℕ} (b : Fin 4) (inb : ∀ a, (![n, 0, 0] : Fin 3 → ℕ) a + S1x1024x64.size a ≤ S4x1024x64.size a)
    (p : Vec Ideal S1x1024x64 .f32) (L) (t : Fin 1024) (c : Fin 64) (h : b.val ≠ n) :
    View.canon (⟨Rect.unit (s := S4x1024x64) ![n, 0, 0] S1x1024x64.size inb, p⟩ :: L) (ix3 b t c)
      = View.canon L (ix3 b t c) := by
  refine View.canon_cons_of_not_mem _ L fun hm => ?_
  have h0 := (Rect.mem_set_unit (s := S4x1024x64) (inb := inb)).mp hm 0
  change n ≤ b.val ∧ b.val < n + 1 at h0
  omega

/-- The four rows of the result, by batch entry. -/
theorem rows_apply (p : Fin 4 → Vec Ideal S1x1024x64 .f32) (b : Fin 4) (t : Fin 1024) (c : Fin 64) :
    View.canon [⟨r0_17, p 3⟩, ⟨r0_14, p 2⟩, ⟨r0_11, p 1⟩, ⟨r0_8, p 0⟩] (ix3 b t c) = p b (ix3 0 t c) := by
  match b with
  | 3 => exact row_hit 3 _ _ _ t c rfl
  | 2 => exact (row_miss 2 _ _ _ t c (by decide)).trans (row_hit 2 _ _ _ t c rfl)
  | 1 => exact (row_miss 1 _ _ _ t c (by decide)).trans ((row_miss 1 _ _ _ t c (by decide)).trans (row_hit 1 _ _ _ t c rfl))
  | 0 => exact (row_miss 0 _ _ _ t c (by decide)).trans ((row_miss 0 _ _ _ t c (by decide)).trans
      ((row_miss 0 _ _ _ t c (by decide)).trans (row_hit 0 _ _ _ t c rfl)))

/-- One element, stored and read. -/
theorem cell_apply (v : Ideal .f32) :
    View.canon ([⟨r0_18, broadcast S1x1 v⟩] : List (View.Piece (Elt Ideal) S1x1 .f32)) (ix2 0 0) = v :=
  congrFun (View.canon_unit_zero (by funext a; match a with | 0 => rfl | 1 => rfl) _ _) (ix2 0 0)

/-- Two groups' blocks side by side. -/
theorem entry_apply {p q : FVec Ideal S1024x32 .f32} {t : Fin 1024} {c : Fin 64} {v : EReal}
    (hp : grp c = 0 → p (ix2 t (pos c)) = v) (hq : grp c = 1 → q (ix2 t (pos c)) = v) :
    Block.entry p q (ix3 0 t c) = v := by
  pointwise [Block.entry]
  by_cases h : c.val < 32
  · have hg : grp c = 0 := Fin.ext (Nat.div_eq_of_lt h)
    have ho : pos c = ⟨c.val, h⟩ := Fin.ext (Nat.mod_eq_of_lt h)
    refine (dif_pos h).trans ?_
    rw [← hp hg, ho]
  · have hg : grp c = 1 := Fin.ext (by simp only [grp]; show c.val / 32 = 1; omega)
    have ho : pos c = ⟨c.val - 32, by omega⟩ := Fin.ext (by simp only [pos]; omega)
    refine (dif_neg h).trans ?_
    rw [← hq hg, ho]

/-- Four counts added up. -/
theorem sum_four (u : Fin 4 → FVec Ideal S512x1 .f32) (U : Fin 4 → Fin 512 → ℝ) (hu : ∀ b k, u b (ix2 k 0) = (U b k : EReal))
    (k : Fin 512) : addf (addf (addf (addf Block.none (u 0)) (u 1)) (u 2)) (u 3) (ix2 k 0) = ((∑ b, U b k : ℝ) : EReal) := by
  show (((Ideal.ofBits .f32 0x00000000#32 + u 0 (ix2 k 0)) + u 1 (ix2 k 0)) + u 2 (ix2 k 0)) + u 3 (ix2 k 0) = _
  rw [hu, hu, hu, hu, word_zero, ← EReal.coe_add, ← EReal.coe_add, ← EReal.coe_add, ← EReal.coe_add, Fin.sum_univ_four,
    zero_add]

/-- Eight errors added up and scaled. -/
theorem sum_eight (v : Fin 4 → Fin 2 → Ideal .f32) (E : Fin 4 → Fin 2 → ℝ) (hv : ∀ b g, v b g = (E b g : EReal)) :
    Scalar.mulf (Scalar.addf (Scalar.addf (Scalar.addf (Scalar.addf (Scalar.addf (Scalar.addf (Scalar.addf
      (Scalar.addf (Scalar.ofBits .f32 0x00000000#32) (v 0 0)) (v 0 1)) (v 1 0)) (v 1 1)) (v 2 0)) (v 2 1)) (v 3 0))
      (v 3 1)) (Scalar.ofBits .f32 0x36A00000#32) = (((∑ b, ∑ g, E b g) * (5 / 1048576) : ℝ) : EReal) := by
  show (((((((((Ideal.ofBits .f32 0x00000000#32 + v 0 0) + v 0 1) + v 1 0) + v 1 1) + v 2 0) + v 2 1) + v 3 0)
    + v 3 1) * Ideal.ofBits .f32 0x36A00000#32 : EReal) = _
  simp only [hv, word_zero, word_loss, ← EReal.coe_add, ← EReal.coe_mul, Fin.sum_univ_four, Fin.sum_univ_two]
  refine congrArg _ ?_
  ring

/-- Two spreads added up. -/
theorem sum_two (p q : Ideal .f32) (P Q : ℝ) (hp : p = (P : EReal)) (hq : q = (Q : EReal)) :
    Scalar.addf (Scalar.addf (Scalar.ofBits .f32 0x00000000#32) p) q = ((P + Q : ℝ) : EReal) := by
  show ((Ideal.ofBits .f32 0x00000000#32 + p) + q : EReal) = _
  rw [hp, hq, word_zero, ← EReal.coe_add, ← EReal.coe_add, zero_add]

/-! ## The windows -/

/-- The five windows hold the inputs. -/
structure Windows (I : Inputs) (x0 : Vec Ideal S4x1024x64 .f32) (x1 : Vec Ideal S2x512x32 .f32)
    (x2 : Vec Ideal S2x32x32 .f32) (x3 x4 : Vec Ideal S2x1x32 .f32) : Prop where
  x : ∀ b t c, x0 (ix3 b t c) = (I.x b t c : EReal)
  e : ∀ g k c, x1 (ix3 g k c) = (I.e k g c : EReal)
  w : ∀ g o c, x2 (ix3 g o c) = (I.w (chan g o) c : EReal)
  gw : ∀ g o, x3 (ix3 g 0 o) = (I.gw (chan g o) : EReal)
  gb : ∀ g o, x4 (ix3 g 0 o) = (I.gb (chan g o) : EReal)

variable {I : Inputs} {x0 : Vec Ideal S4x1024x64 .f32} {x1 : Vec Ideal S2x512x32 .f32}
  {x2 : Vec Ideal S2x32x32 .f32} {x3 x4 : Vec Ideal S2x1x32 .f32} (H : Windows I x0 x1 x2 x3 x4)

/-- A block of the first window holds a batch entry's group of channels. -/
def Part (I : Inputs) (b : Fin 4) (g : Fin 2) (X : Vec Ideal S1x1024x32 .f32) : Prop :=
  ∀ t c, X (ix3 0 t c) = (I.x b t (chan g c) : EReal)

include H

/-- A load of a batch entry's and a group's channels holds them. -/
theorem part {n o : ℕ} (b : Fin 4) (g : Fin 2) (hb : b.val = n) (hg : g.val * 32 = o)
    (inb : ∀ a, (![n, 0, o] : Fin 3 → ℕ) a + S1x1024x32.size a ≤ S4x1024x64.size a) :
    Part I b g (View.ld x0 (Rect.unit (s := S4x1024x64) ![n, 0, o] S1x1024x32.size inb)) := fun t c =>
  (ld_at x0 inb (i' := b) (j' := t) (k' := chan g c) (by simpa using hb) (by simp) (by simp only [chan]; omega)).trans
    (H.x b t _)

/-- The first group's codebook, -/
theorem book0_apply (k : Fin 512) (c : Fin 32) : View.ld x1 r0_0 (ix3 0 k c) = (I.book 0 k c : EReal) :=
  (ld_at x1 _ (i' := 0) (j' := k) (k' := c) (by simp) (by simp) (by simp)).trans (H.e 0 k c)

/-- and the second's. -/
theorem book1_apply (k : Fin 512) (c : Fin 32) : View.ld x1 r0_1 (ix3 0 k c) = (I.book 1 k c : EReal) :=
  (ld_at x1 _ (i' := 1) (j' := k) (k' := c) (by simp) (by simp) (by simp)).trans (H.e 1 k c)

/-- The first group's tokens, -/
theorem tok0_apply {b : Fin 4} {X : Vec Ideal S1x1024x32 .f32} (hX : Part I b 0 X) (t : Fin 1024) (o : Fin 32) :
    Block.tok0 x2 x3 x4 X (ix2 t o) = (I.tok b 0 t o : EReal) :=
  BlockRead.tokens_apply hX
    (fun o c => (ld_at x2 _ (i' := 0) (j' := o) (k' := c) (by simp) (by simp) (by simp)).trans (H.w 0 o c))
    (fun o => (ld_at x3 _ (i' := 0) (j' := 0) (k' := o) (by simp) (by simp) (by simp)).trans (H.gw 0 o))
    (fun o => (ld_at x4 _ (i' := 0) (j' := 0) (k' := o) (by simp) (by simp) (by simp)).trans (H.gb 0 o)) t o

/-- and the second's. -/
theorem tok1_apply {b : Fin 4} {X : Vec Ideal S1x1024x32 .f32} (hX : Part I b 1 X) (t : Fin 1024) (o : Fin 32) :
    Block.tok1 x2 x3 x4 X (ix2 t o) = (I.tok b 1 t o : EReal) :=
  BlockRead.tokens_apply hX
    (fun o c => (ld_at x2 _ (i' := 1) (j' := o) (k' := c) (by simp) (by simp) (by simp)).trans (H.w 1 o c))
    (fun o => (ld_at x3 _ (i' := 1) (j' := 0) (k' := o) (by simp) (by simp) (by simp)).trans (H.gw 1 o))
    (fun o => (ld_at x4 _ (i' := 1) (j' := 0) (k' := o) (by simp) (by simp) (by simp)).trans (H.gb 1 o)) t o

/-! ## The first result -/

/-- A batch entry's row is its quantised tokens, where a token is clear of a tie. -/
theorem row_apply {b : Fin 4} {X Y : Vec Ideal S1x1024x32 .f32} (hX : Part I b 0 X) (hY : Part I b 1 Y) (t : Fin 1024)
    (c : Fin 64) (hc : Clear (I.book (grp c)) (I.tok b (grp c) t)) :
    Block.row x1 x2 x3 x4 X Y (ix3 0 t c) = (I.quant b t c : EReal) := by
  have h0 := BlockRead.quant_apply (book0_apply H) (tok0_apply H hX) t
  have h1 := BlockRead.quant_apply (book1_apply H) (tok1_apply H hY) t
  unfold Block.row Inputs.quant Inputs.near
  refine entry_apply (fun hg => ?_) fun hg => ?_
  · rw [hg] at hc ⊢
    exact h0 hc _
  · rw [hg] at hc ⊢
    exact h1 hc _

/-- The first result, at a token clear of a tie. -/
theorem out5_apply (b : Fin 4) (t : Fin 1024) (c : Fin 64) (hc : Clear (I.book (grp c)) (I.tok b (grp c) t)) :
    out0_5 x0 x1 x2 x3 x4 (ix3 b t c) = (I.quant b t c : EReal) := by
  rw [Block.out5_eq]
  refine (rows_apply ![Block.row x1 x2 x3 x4 (View.ld x0 r0_4) (View.ld x0 r0_6),
    Block.row x1 x2 x3 x4 (View.ld x0 r0_9) (View.ld x0 r0_10),
    Block.row x1 x2 x3 x4 (View.ld x0 r0_12) (View.ld x0 r0_13),
    Block.row x1 x2 x3 x4 (View.ld x0 r0_15) (View.ld x0 r0_16)] b t c).trans ?_
  match b, hc with
  | 0, hc => exact row_apply H (part H 0 0 rfl rfl _) (part H 0 1 rfl rfl _) t c hc
  | 1, hc => exact row_apply H (part H 1 0 rfl rfl _) (part H 1 1 rfl rfl _) t c hc
  | 2, hc => exact row_apply H (part H 2 0 rfl rfl _) (part H 2 1 rfl rfl _) t c hc
  | 3, hc => exact row_apply H (part H 3 0 rfl rfl _) (part H 3 1 rfl rfl _) t c hc

/-! ## The second result -/

/-- How often the first group's codes are nearest, -/
theorem uses0_apply {b : Fin 4} {X : Vec Ideal S1x1024x32 .f32} (hX : Part I b 0 X) (k : Fin 512) :
    Block.uses0 x1 x2 x3 x4 X (ix2 k 0) = (Model.uses (I.book 0) (I.tok b 0) k : EReal) :=
  BlockRead.uses_apply (book0_apply H) (tok0_apply H hX) k

/-- and the second's. -/
theorem uses1_apply {b : Fin 4} {X : Vec Ideal S1x1024x32 .f32} (hX : Part I b 1 X) (k : Fin 512) :
    Block.uses1 x1 x2 x3 x4 X (ix2 k 0) = (Model.uses (I.book 1) (I.tok b 1) k : EReal) :=
  BlockRead.uses_apply (book1_apply H) (tok1_apply H hX) k

/-- The second result. -/
theorem out6_apply : out0_6 x0 x1 x2 x3 x4 (ix2 0 0) = (I.ppl : EReal) := by
  rw [Block.out6_eq, cell_apply]
  refine sum_two _ _ _ _ (BlockRead.spread_apply (sum_four
    ![Block.uses0 x1 x2 x3 x4 (View.ld x0 r0_4), Block.uses0 x1 x2 x3 x4 (View.ld x0 r0_9),
      Block.uses0 x1 x2 x3 x4 (View.ld x0 r0_12), Block.uses0 x1 x2 x3 x4 (View.ld x0 r0_15)]
      (fun b k => Model.uses (I.book 0) (I.tok b 0) k) fun b k => ?_) (I.uses_nonneg 0))
    (BlockRead.spread_apply (sum_four
    ![Block.uses1 x1 x2 x3 x4 (View.ld x0 r0_6), Block.uses1 x1 x2 x3 x4 (View.ld x0 r0_10),
      Block.uses1 x1 x2 x3 x4 (View.ld x0 r0_13), Block.uses1 x1 x2 x3 x4 (View.ld x0 r0_16)]
      (fun b k => Model.uses (I.book 1) (I.tok b 1) k) fun b k => ?_) (I.uses_nonneg 1))
  · match b with
    | 0 => exact uses0_apply H (part H 0 0 rfl rfl _) k
    | 1 => exact uses0_apply H (part H 1 0 rfl rfl _) k
    | 2 => exact uses0_apply H (part H 2 0 rfl rfl _) k
    | 3 => exact uses0_apply H (part H 3 0 rfl rfl _) k
  · match b with
    | 0 => exact uses1_apply H (part H 0 1 rfl rfl _) k
    | 1 => exact uses1_apply H (part H 1 1 rfl rfl _) k
    | 2 => exact uses1_apply H (part H 2 1 rfl rfl _) k
    | 3 => exact uses1_apply H (part H 3 1 rfl rfl _) k

/-! ## The third result -/

/-- The third result, where every token is clear of a tie. -/
theorem out7_apply (hc : ∀ b g t, Clear (I.book g) (I.tok b g t)) :
    out0_7 x0 x1 x2 x3 x4 (ix2 0 0) = (I.loss : EReal) := by
  rw [Block.out7_eq, cell_apply]
  have e0 : ∀ {b X}, Part I b 0 X → Block.err0 x1 x2 x3 x4 X = (Model.err (I.book 0) (I.tok b 0) : EReal) :=
    fun {b X} hX => BlockRead.err_apply (book0_apply H) (tok0_apply H hX) (hc b 0)
  have e1 : ∀ {b X}, Part I b 1 X → Block.err1 x1 x2 x3 x4 X = (Model.err (I.book 1) (I.tok b 1) : EReal) :=
    fun {b X} hX => BlockRead.err_apply (book1_apply H) (tok1_apply H hX) (hc b 1)
  rw [e0 (X := View.ld x0 r0_4) (part H 0 0 rfl rfl _), e1 (X := View.ld x0 r0_6) (part H 0 1 rfl rfl _),
    e0 (X := View.ld x0 r0_9) (part H 1 0 rfl rfl _), e1 (X := View.ld x0 r0_10) (part H 1 1 rfl rfl _),
    e0 (X := View.ld x0 r0_12) (part H 2 0 rfl rfl _), e1 (X := View.ld x0 r0_13) (part H 2 1 rfl rfl _),
    e0 (X := View.ld x0 r0_15) (part H 3 0 rfl rfl _), e1 (X := View.ld x0 r0_16) (part H 3 1 rfl rfl _)]
  exact sum_eight (fun b g => ((Model.err (I.book g) (I.tok b g) : ℝ) : EReal)) _ fun _ _ => rfl

end Cert.KernelRead

end
-- ==== Proof.KernelRun.lean ====
/- The kernel's run: every execution ends with the three results at what its one block stores (`out0_5`, `out0_6`,
   `out0_7`) from the five arrays that it is launched on, which are the arguments laid out by group. -/
module

public import proofs.«01_k».proof.Proof.Gen.KernelIdeal.Frame
public import Idealize.ShloMosaic.Lib.Pipeline.ValueKit.Geometry
public import Idealize.ShloMosaic.Lib.Claim

@[expose] public section

set_option maxRecDepth 16384

noncomputable section

namespace Cert.KernelRun

open Cert.KernelIdeal Cert.KernelIdeal.Gen Idealize.ShloMosaic Idealize.ShloMosaic.TcCoe Idealize.SL.Sem

variable {F : FTy → Type} [FloatOps F]

/-! ## The arguments laid out by group -/

/-- The codebooks, a group at a time. -/
def books (a1 : Vec F S512x2x32 .f32) : Vec F S2x512x32 .f32 :=
  transpose S2x512x32 [1, 0, 2] a1 transposes_S512x2x32_S2x512x32_1_0_2

/-- The weights, a group at a time. -/
def weights (a2 : Vec F S64x32x1 .f32) : Vec F S2x32x32 .f32 :=
  shapeCast S2x32x32 (shapeCast S64x32 a2 shapeCasts_S64x32x1_S64x32) shapeCasts_S64x32_S2x32x32

/-- The scales or the shifts, a group at a time. -/
def params (a : Vec F S64 .f32) : Vec F S2x1x32 .f32 := shapeCast S2x1x32 a shapeCasts_S64_S2x1x32

variable (m : (ℓ : Loc nD τ sig) → Buf (Elt F) ℓ) (ρ : Dev nD → PrngReg)

/-- The second window's array is the codebooks by group. -/
theorem V_v0 (c : Dev nD) : V m c main_v0 = books (m ((c : Thread nD τ).loc main_arg1)) := by
  entry_read
  rfl

/-- The third window's array is the weights by group. -/
theorem V_v2 (c : Dev nD) : V m c main_v2 = weights (m ((c : Thread nD τ).loc main_arg2)) := by
  entry_read
  rfl

/-- The fourth window's array is the scales by group. -/
theorem V_v3 (c : Dev nD) : V m c main_v3 = params (m ((c : Thread nD τ).loc main_arg3)) := by
  entry_read
  rfl

/-- The fifth window's array is the shifts by group. -/
theorem V_v4 (c : Dev nD) : V m c main_v4 = params (m ((c : Thread nD τ).loc main_arg4)) := by
  entry_read
  rfl

/-! ## The windows: each is its whole array -/

/-- The one point of the grid. -/
def pt : Fin cfg0.N := ⟨0, by decide⟩

/-- The block of window 0 is its array. -/
theorem iblk0_eq (c : Dev nD) : iblk m c 0 pt = V m c main_arg0 := by
  funext j
  refine congrArg (V m c main_arg0) (funext fun a => Fin.ext ?_)
  show 0 * _ + 1 * (j a).val = (j a).val
  omega

/-- The block of window 1 is its array. -/
theorem iblk1_eq (c : Dev nD) : iblk m c 1 pt = V m c main_v0 := by
  funext j
  refine congrArg (V m c main_v0) (funext fun a => Fin.ext ?_)
  show 0 * _ + 1 * (j a).val = (j a).val
  omega

/-- The block of window 2 is its array. -/
theorem iblk2_eq (c : Dev nD) : iblk m c 2 pt = V m c main_v2 := by
  funext j
  refine congrArg (V m c main_v2) (funext fun a => Fin.ext ?_)
  show 0 * _ + 1 * (j a).val = (j a).val
  omega

/-- The block of window 3 is its array. -/
theorem iblk3_eq (c : Dev nD) : iblk m c 3 pt = V m c main_v3 := by
  funext j
  refine congrArg (V m c main_v3) (funext fun a => Fin.ext ?_)
  show 0 * _ + 1 * (j a).val = (j a).val
  omega

/-- The block of window 4 is its array. -/
theorem iblk4_eq (c : Dev nD) : iblk m c 4 pt = V m c main_v4 := by
  funext j
  refine congrArg (V m c main_v4) (funext fun a => Fin.ext ?_)
  show 0 * _ + 1 * (j a).val = (j a).val
  omega

/-- What a block's function gives of the arrays that the kernel is launched on. -/
abbrev onArgs {α : Type} (f : Vec F S4x1024x64 .f32 → Vec F S2x512x32 .f32 → Vec F S2x32x32 .f32 → Vec F S2x1x32 .f32 →
    Vec F S2x1x32 .f32 → α) (c : Dev nD) : α :=
  f (m ((c : Thread nD τ).loc main_arg0)) (books (m ((c : Thread nD τ).loc main_arg1)))
    (weights (m ((c : Thread nD τ).loc main_arg2))) (params (m ((c : Thread nD τ).loc main_arg3)))
    (params (m ((c : Thread nD τ).loc main_arg4)))

/-- A function of the five blocks is that of the arguments laid out by group. -/
theorem blocks_eq {α : Type} (f : Vec F S4x1024x64 .f32 → Vec F S2x512x32 .f32 → Vec F S2x32x32 .f32 → Vec F S2x1x32 .f32 →
    Vec F S2x1x32 .f32 → α) (c : Dev nD) :
    f (iblk m c 0 pt) (iblk m c 1 pt) (iblk m c 2 pt) (iblk m c 3 pt) (iblk m c 4 pt) = onArgs m f c := by
  rw [iblk0_eq, iblk1_eq, iblk2_eq, iblk3_eq, iblk4_eq, V_main_arg0, V_v0, V_v2, V_v3, V_v4]

/-! ## The three arrays after the run -/

/-- The first result's array after the run. -/
theorem final5 (c : Dev nD) : (dats m 0 c).arrAt 5 cfg0.N = onArgs m out0_5 c :=
  Pipeline.Dat.arrAt_eq_of_after_last (dats m 0 c) 5 pt (by decide +kernel) (onArgs m out0_5 c) fun j => by
    have h := congrFun ((after0_5 m c pt).trans (blocks_eq m out0_5 c)) j
    exact h

/-- The second result's array after the run. -/
theorem final6 (c : Dev nD) : (dats m 0 c).arrAt 6 cfg0.N = onArgs m out0_6 c :=
  Pipeline.Dat.arrAt_eq_of_after_last (dats m 0 c) 6 pt (by decide +kernel) (onArgs m out0_6 c) fun j => by
    have h := congrFun ((after0_6 m c pt).trans (blocks_eq m out0_6 c)) j
    exact h

/-- The third result's array after the run. -/
theorem final7 (c : Dev nD) : (dats m 0 c).arrAt 7 cfg0.N = onArgs m out0_7 c :=
  Pipeline.Dat.arrAt_eq_of_after_last (dats m 0 c) 7 pt (by decide +kernel) (onArgs m out0_7 c) fun j => by
    have h := congrFun ((after0_7 m c pt).trans (blocks_eq m out0_7 c)) j
    exact h

/-! ## The two results that are reshaped after the call -/

/-- No two windows share an array. -/
theorem arrays_ne : Function.Injective (Pipeline.arrRef spec0) := by decide

/-- The second result is its array's one element. -/
theorem tail6 (c : Dev nD) : Pipeline.afterTail₀ cfgs (dats m) 0 (V0 m) [hostOps1] c main_v6
    = shapeCast S_ (onArgs m out0_6 c) shapeCasts_S1x1_S_ := by
  unfold Pipeline.afterTail₀
  simp only [hostOps1, List.flatten_cons, List.flatten_nil, List.append_nil]
  after_results_simp
  refine congrArg (fun a : Vec F S1x1 .f32 => (shapeCast S_ a shapeCasts_S1x1_S_ : Vec F S_ .f32)) ?_
  exact (Pipeline.withArrays_arr spec0 arrays_ne c _ _ 6).trans (final6 m c)

/-- The third result is its array's one element. -/
theorem tail7 (c : Dev nD) : Pipeline.afterTail₀ cfgs (dats m) 0 (V0 m) [hostOps1] c main_v7
    = shapeCast S_ (onArgs m out0_7 c) shapeCasts_S1x1_S_ := by
  unfold Pipeline.afterTail₀
  simp only [hostOps1, List.flatten_cons, List.flatten_nil, List.append_nil]
  after_results_simp
  refine congrArg (fun a : Vec F S1x1 .f32 => (shapeCast S_ a shapeCasts_S1x1_S_ : Vec F S_ .f32)) ?_
  exact (Pipeline.withArrays_arr spec0 arrays_ne c _ _ 7).trans (final7 m c)

/-! ## The run -/

/-- The three results and the unchanged arguments. -/
theorem run : θ_run defs (onTc (τ := τ) (main (F := F))) ⟨m, fun _ => 0, ρ⟩ fun r => ∀ c : Dev nD,
      (r.2.mem ((c.tc : Thread nD τ).loc main_v5_0) = onArgs m out0_5 c
      ∧ r.2.mem ((c.tc : Thread nD τ).loc main_v6) = shapeCast S_ (onArgs m out0_6 c) shapeCasts_S1x1_S_
      ∧ r.2.mem ((c.tc : Thread nD τ).loc main_v7) = shapeCast S_ (onArgs m out0_7 c) shapeCasts_S1x1_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨⟨((h.1 c).1 5).trans (final5 m c),
      ((h.1 c).2 main_v6 (Pipeline.mem_restRefs_of main_v6 (by decide) (by decide))).trans (tail6 m c),
      ((h.1 c).2 main_v7 (Pipeline.mem_restRefs_of main_v7 (by decide) (by decide))).trans (tail7 m c)⟩, h.2 c⟩)
    (θ_run_and (run_main m ρ) (unchanged m ρ))

end Cert.KernelRun

end
-- ==== Proof.Layout.lean ====
/- The arguments laid out by group, entry by entry. -/
module

public import proofs.«01_k».proof.Proof.KernelRun
public import proofs.«01_k».proof.Proof.Whole
public import Idealize.ShloMosaic.Lib.Pointwise

@[expose] public section

set_option maxRecDepth 16384

noncomputable section

namespace Cert.KernelRun

open Idealize.ShloMosaic Cert.Whole Cert.KernelIdeal Cert.KernelIdeal.Gen

/-- A group's codebook holds that group's codes. -/
theorem books_apply (a1 : Vec Ideal S512x2x32 .f32) (g : Fin 2) (k : Fin 512) (c : Fin 32) :
    books a1 (ix3 g k c) = a1 (ix3 k g c) := by
  pointwise [books]

/-- A group's weights are those of its channels. -/
theorem weights_apply (a2 : Vec Ideal S64x32x1 .f32) (g : Fin 2) (o c : Fin 32) :
    weights a2 (ix3 g o c) = a2 (ix3 (chan g o) c 0) := by
  pointwise [weights]
  rfl

/-- A group's scales and shifts are those of its channels. -/
theorem params_apply (a : Vec Ideal S64 .f32) (g : Fin 2) (o : Fin 32) : params a (ix3 g 0 o) = a (ix1 (chan g o)) := by
  pointwise [params]
  rfl

/-- One element as an array without axes. -/
theorem cell_apply (a : Vec Ideal S1x1 .f32) : shapeCast S_ a shapeCasts_S1x1_S_ ix0 = a (ix2 0 0) := by
  pointwise []

end Cert.KernelRun

end
-- ==== Proof.RefTokens.lean ====
/- The reference's tokens over the extended reals, when its inputs are real numbers: the tokens of `Cert.Whole`. -/
module

public import proofs.«01_k».proof.Proof.Whole
public import proofs.«01_k».proof.Proof.RefRun
public import Idealize.ShloMosaic.Lib.Pointwise

@[expose] public section

set_option maxRecDepth 16384

noncomputable section

namespace Cert.RefRead

open Idealize.ShloMosaic Cert.Model Cert.Whole Cert.ReferenceIdeal Cert.ReferenceIdeal.Gen

/-! ## The tokens -/

section Tokens

variable {z : FVec Ideal S4x2x32x1024 .f32} {Z : Fin 4 → Fin 2 → Fin 1024 → Fin 32 → ℝ}
  (hz : ∀ b g o t, z (ix4 b g o t) = (Z b g t o : EReal))

include hz

/-- A group's total. -/
theorem groupSum_apply (b : Fin 4) (g : Fin 2) : Ref.groupSum z (ix4 b g 0 0) = (Model.total (Z b g) : EReal) := by
  pointwise [Ref.groupSum]
  simp only [hz, ← coe_sum]
  rw [Finset.sum_comm]
  rfl

/-- An entry less its group's mean. -/
theorem centred_apply (b : Fin 4) (g : Fin 2) (o : Fin 32) (t : Fin 1024) :
    Ref.centred z (ix4 b g o t) = ((Z b g t o - Model.mean (Z b g) : ℝ) : EReal) := by
  pointwise [Ref.centred, Ref.mean]
  rw [groupSum_apply hz, hz, word_size, div_coe _ _ (by norm_num), ← EReal.coe_sub]
  rfl

/-- A group's variance. -/
theorem variance_apply (b : Fin 4) (g : Fin 2) : Ref.variance z (ix4 b g 0 0) = (Model.variance (Z b g) : EReal) := by
  have hs := groupSum_apply (z := mulf (Ref.centred z) (Ref.centred z))
    (Z := fun b g t o => (Z b g t o - Model.mean (Z b g)) * (Z b g t o - Model.mean (Z b g))) (fun b g o t => by
      show Ref.centred z (ix4 b g o t) * Ref.centred z (ix4 b g o t) = _
      rw [centred_apply hz, ← EReal.coe_mul]) b g
  have h0 : FloatOps.sitofp (F := Ideal) .f32 (0#32 : BitVec 32) = ((0 : ℝ) : EReal) := by
    show (((0#32 : BitVec 32).toInt : ℝ) : EReal) = _
    simp
  pointwise [Ref.variance, Ref.count]
  rw [hs, h0, word_size, ← EReal.coe_sub, sub_zero, if_pos (by exact_mod_cast (by norm_num : (0 : ℝ) < 32768)),
    div_coe _ _ (by norm_num)]
  rfl

/-- The normalised entries, scaled and shifted. -/
theorem norm_apply {gw gb : FVec Ideal S64 .f32} {GW GB : Fin 64 → ℝ} (hw : ∀ o, gw (ix1 o) = (GW o : EReal))
    (hb : ∀ o, gb (ix1 o) = (GB o : EReal)) (b : Fin 4) (c : Fin 64) (t : Fin 1024) :
    Ref.norm z gw gb (ix3 b c t) = (Model.norm (Z b (grp c)) (fun o => GW (chan (grp c) o)) (fun o => GB (chan (grp c) o)) t
      (pos c) : EReal) := by
  pointwise [Ref.norm]
  have hv := variance_apply hz b (grp c)
  have hc := centred_apply hz b (grp c) (pos c) t
  unfold grp at hv hc
  unfold pos at hc
  rw [hv, hc, hw, hb, word_eps, ← EReal.coe_add, sqrt_coe _ (add_nonneg (variance_nonneg _) eps_pos.le),
    div_coe _ _ (sqrt_ne _), ← EReal.coe_mul, ← EReal.coe_add]
  simp only [Model.norm, chan_grp]
  rfl

end Tokens

section Main

variable {I : Inputs} {a0 : FVec Ideal S4x1024x64 .f32} {a1 : FVec Ideal S512x2x32 .f32} {a2 : FVec Ideal S64x32x1 .f32}
  {a3 a4 : FVec Ideal S64 .f32} (H : I.Held a0 a1 a2 a3 a4)

include H

/-- The convolution. -/
theorem conv_apply (b : Fin 4) (g : Fin 2) (o : Fin 32) (t : Fin 1024) :
    Ref.conv a0 a2 (ix4 b g o t) = (I.conv b g t o : EReal) := by
  pointwise [Ref.conv, dot_S2x32x32_S4x2x32x1024_S2x32x4x1024_2_2_1_03_0_1]
  simp only [H.x, H.w, ← EReal.coe_mul, ← coe_sum]
  have h : I.conv b g t o = ∑ c, I.w (chan g o) c * I.x b t (chan g c) := by
    unfold Inputs.conv Model.conv
    exact Finset.sum_congr rfl fun c _ => mul_comm _ _
  rw [h]
  rfl

/-- The tokens, by channel. -/
theorem tokens_apply (b : Fin 4) (c : Fin 64) (t : Fin 1024) :
    Ref.tokens a0 a2 a3 a4 (ix3 b c t) = (I.tok b (grp c) t (pos c) : EReal) :=
  norm_apply (conv_apply H) H.gw H.gb b c t

/-- The tokens, by group and place. -/
theorem tokens_chan (b : Fin 4) (g : Fin 2) (o : Fin 32) (t : Fin 1024) :
    Ref.tokens a0 a2 a3 a4 (ix3 b (chan g o) t) = (I.tok b g t o : EReal) := by
  rw [tokens_apply H, grp_chan, pos_chan]

end Main

end Cert.RefRead

end
-- ==== Proof.RefNear.lean ====
/- The reference's nearest codes: the nearest codes of `Cert.Whole`. -/
module

public import proofs.«01_k».proof.Proof.RefTokens
public import proofs.«01_k».proof.Proof.Least
public import Idealize.ShloMosaic.Lib.Pointwise

@[expose] public section

set_option maxRecDepth 16384

noncomputable section

namespace Cert.RefRead

open Idealize.ShloMosaic Cert.Model Cert.Least Cert.Whole Cert.ReferenceIdeal Cert.ReferenceIdeal.Gen

section Main

variable {I : Inputs} {a0 : FVec Ideal S4x1024x64 .f32} {a1 : FVec Ideal S512x2x32 .f32} {a2 : FVec Ideal S64x32x1 .f32}
  {a3 a4 : FVec Ideal S64 .f32} (H : I.Held a0 a1 a2 a3 a4)

include H

/-- A token's squared distance to a code. -/
theorem dist_apply (k : Fin 512) (b : Fin 4) (t : Fin 1024) (g : Fin 2) :
    Ref.dist (Ref.tokens a0 a2 a3 a4) a1 (ix4 k b t g) = (Model.dist (I.book g) (I.tok b g t) k : EReal) := by
  have ht := fun o => tokens_chan H b g o t
  unfold chan at ht
  pointwise [Ref.dist, Ref.diff]
  simp only [ht, H.e, ← EReal.coe_sub, ← EReal.coe_mul, ← coe_sum]
  rfl

/-- A token's nearest code. -/
theorem near_apply (b : Fin 4) (t : Fin 1024) (g : Fin 2) :
    Ref.nearest a0 a1 a2 a3 a4 (ix3 b t g) = BitVec.ofNat 32 (I.near b g t).val := by
  have h := argmin_apply (Host.sqrt (Ref.dist (Ref.tokens a0 a2 a3 a4) a1)) b t g
    (fun k => Real.sqrt (Model.dist (I.book g) (I.tok b g t) k)) (fun k => ?_) (code_sqrt (I.book g) (I.tok b g t))
  · rw [← ix3_eq_valueIdx] at h
    exact h
  · show Ideal.sqrt _ = _
    rw [← ix4_eq_valueIdx, dist_apply H, sqrt_coe _ (dist_nonneg _ _ _)]

end Main

end Cert.RefRead

end
-- ==== Proof.Lookup.lean ====
/- What the reference's look-ups of codes read. -/
module

public import proofs.«01_k».proof.Proof.Least
public import proofs.«01_k».proof.Proof.RefRun
public import Idealize.ShloMosaic.Lib.Pointwise

@[expose] public section

set_option maxRecDepth 16384

noncomputable section

namespace Cert.RefRead

open Idealize.ShloMosaic Cert.Model Cert.Least Cert.ReferenceIdeal Cert.ReferenceIdeal.Gen

/-- A look-up at a code number and a group number reads that code of that group. -/
theorem gather_apply (e : FVec Ideal S512x2x32 .f32) (i : IVec S4x1024x2 32) (b : Fin 4) (t : Fin 1024) (c : Fin 32)
    (k : Fin 512) (g : Fin 2) (hk : i (ix3 b t 0) = BitVec.ofNat 32 k.val) (hg : i (ix3 b t 1) = BitVec.ofNat 32 g.val) :
    Host.gather gather_S512x2x32_S4x1024x2_S4x1024x32_2_01_n_n_01_2_1132 e i (ix3 b t c) = e (ix3 k g c) := by
  unfold Host.gather
  refine congrArg e (funext fun a => Fin.ext ?_)
  match a with
  | ⟨0, _⟩ =>
    show min (i _).toInt.toNat (512 - 1) + 0 + 0 = k.val
    have hi : ∀ j : S4x1024x2.Idx, j = ix3 b t 0 → min (i j).toInt.toNat (512 - 1) + 0 + 0 = k.val := by
      rintro _ rfl
      rw [hk, toInt_code, Int.toNat_natCast]
      omega
    exact hi _ (funext fun a => match a with | ⟨0, _⟩ => rfl | ⟨1, _⟩ => rfl | ⟨2, _⟩ => rfl)
  | ⟨1, _⟩ =>
    show min (i _).toInt.toNat (2 - 1) + 0 + 0 = g.val
    have hi : ∀ j : S4x1024x2.Idx, j = ix3 b t 1 → min (i j).toInt.toNat (2 - 1) + 0 + 0 = g.val := by
      rintro _ rfl
      have := toInt_code ⟨g.val, by omega⟩
      rw [hg, this, Int.toNat_natCast]
      show min g.val 1 + 0 + 0 = g.val
      omega
    exact hi _ (funext fun a => match a with | ⟨0, _⟩ => rfl | ⟨1, _⟩ => rfl | ⟨2, _⟩ => rfl)
  | ⟨2, _⟩ =>
    show 0 + 0 + c.val = c.val
    omega

/-- The look-up's positions are the code numbers beside the group's number. -/
theorem lookup_apply (e : FVec Ideal S512x2x32 .f32) (i : IVec S4x1024 32) (b : Fin 4) (t : Fin 1024) (c : Fin 32)
    (v : BitVec 32)
    (k : Fin 512) (g : Fin 2) (hv : v = BitVec.ofNat 32 g.val) (hk : i (ix2 b t) = BitVec.ofNat 32 k.val) :
    Host.gather gather_S512x2x32_S4x1024x2_S4x1024x32_2_01_n_n_01_2_1132 e
      (Ref.rows (F := Ideal) i v) (ix3 b t c) = e (ix3 k g c) := by
  refine gather_apply e _ b t c k g ?_ ?_
  · pointwise [Ref.rows, Ref.joinIdx]
    rw [hk]
    have h : IntOp.cmpi .slt (BitVec.ofNat 32 k.val) 0#32 = 0#1 := by
      show BitVec.ofBool (decide ((BitVec.ofNat 32 k.val).toInt < (0#32 : BitVec 32).toInt)) = 0#1
      have h0 : ¬ ((k.val : ℤ) < (0#32 : BitVec 32).toInt) := by
        rw [show (0#32 : BitVec 32).toInt = 0 from rfl]
        omega
      rw [toInt_code, decide_eq_false h0]
      rfl
    simp [h, Scalar.select]
  · rw [← hv]
    pointwise [Ref.rows, Ref.joinIdx]
    rfl

end Cert.RefRead

end
-- ==== Proof.RefQuant.lean ====
/- The reference's quantised tokens: those of `Cert.Whole`. -/
module

public import proofs.«01_k».proof.Proof.RefNear
public import proofs.«01_k».proof.Proof.Lookup
public import Idealize.ShloMosaic.Lib.Pointwise

@[expose] public section

set_option maxRecDepth 16384

noncomputable section

namespace Cert.RefRead

open Idealize.ShloMosaic Cert.Model Cert.Least Cert.Whole Cert.ReferenceIdeal Cert.ReferenceIdeal.Gen

/-- The first group's column of code numbers is the look-up's, -/
theorem colA_apply (ix : IVec S4x1024x2 32) (b : Fin 4) (t : Fin 1024) :
    shapeCast S4x1024 (extractStridedSlice S4x1024x1 ![0, 0, 0] ix slices_S4x1024x2_S4x1024x1_0_0_0)
      shapeCasts_S4x1024x1_S4x1024 (ix2 b t) = ix (ix3 b t 0) := by
  pointwise

/-- and the second group's. -/
theorem colB_apply (ix : IVec S4x1024x2 32) (b : Fin 4) (t : Fin 1024) : Ref.colB ix (ix2 b t) = ix (ix3 b t 1) := by
  pointwise [Ref.colB]

/-- A group's looked-up codes, from the code numbers. -/
theorem codeA_apply (e : FVec Ideal S512x2x32 .f32) (ix : IVec S4x1024x2 32) (b : Fin 4) (t : Fin 1024) (c : Fin 32)
    (k : Fin 512) (hk : ix (ix3 b t 0) = BitVec.ofNat 32 k.val) : Ref.codeA e ix (ix3 b t c) = e (ix3 k 0 c) :=
  lookup_apply e _ b t c _ k 0 rfl ((colA_apply ix b t).trans hk)

/-- The two groups' codes together. -/
theorem code_apply (a : FVec Ideal S4x1024x32 .f32) (e : FVec Ideal S512x2x32 .f32) (i : IVec S4x1024 32) (b : Fin 4)
    (t : Fin 1024) (c : Fin 64) (k : Fin 512) (hk : i (ix2 b t) = BitVec.ofNat 32 k.val) :
    Ref.code a e i (ix3 b c t) = if c.val / 32 < 1 then a (ix3 b t (pos c)) else e (ix3 k 1 (pos c)) := by
  have hl := lookup_apply e i b t (pos c) 1#32 k 1 rfl hk
  unfold pos at hl ⊢
  pointwise [Ref.code, Ref.joinCode]
  by_cases h : c.val / 32 < 1
  · exact (dif_pos h).trans (if_pos h).symm
  · exact ((dif_neg h).trans hl).trans (if_neg h).symm

section Main

variable {I : Inputs} {a0 : FVec Ideal S4x1024x64 .f32} {a1 : FVec Ideal S512x2x32 .f32} {a2 : FVec Ideal S64x32x1 .f32}
  {a3 a4 : FVec Ideal S64 .f32} (H : I.Held a0 a1 a2 a3 a4)

include H

/-- The quantised tokens. -/
theorem quantised_apply (b : Fin 4) (c : Fin 64) (t : Fin 1024) :
    Ref.quantised a0 a1 a2 a3 a4 (ix3 b c t) = (I.quant b t c : EReal) := by
  have hA := codeA_apply a1 (Ref.nearest a0 a1 a2 a3 a4) b t (pos c) _ (near_apply H b t 0)
  have hB := code_apply (Ref.codeA a1 (Ref.nearest a0 a1 a2 a3 a4)) a1 (Ref.colB (Ref.nearest a0 a1 a2 a3 a4)) b t c _
    ((colB_apply _ b t).trans (near_apply H b t 1))
  unfold Ref.quantised
  refine hB.trans ?_
  rw [hA, H.e, H.e]
  unfold Inputs.quant
  by_cases h : c.val / 32 < 1
  · have hg : grp c = 0 := Fin.ext (by simp only [grp]; omega)
    rw [if_pos h, hg]
    rfl
  · have hg : grp c = 1 := Fin.ext (by simp only [grp]; omega)
    rw [if_neg h, hg]
    rfl

end Main

end Cert.RefRead

end
-- ==== Proof.RefRead.lean ====
/- The reference's results over the extended reals, when its inputs are real numbers: the results of `Cert.Whole`. -/
module

public import proofs.«01_k».proof.Proof.RefQuant
public import Idealize.ShloMosaic.Lib.Pointwise

@[expose] public section

set_option maxRecDepth 16384

noncomputable section

namespace Cert.RefRead

open Idealize.ShloMosaic Cert.Model Cert.Least Cert.Whole Cert.ReferenceIdeal Cert.ReferenceIdeal.Gen

/-- The straight-through result, from its two arrays. -/
theorem out_read (q n : FVec Ideal S4x64x1024 .f32) (b : Fin 4) (t : Fin 1024) (c : Fin 64) :
    Ref.out q n (ix3 b t c) = q (ix3 b c t) + (n (ix3 b c t) - n (ix3 b c t)) := by
  pointwise [Ref.out]

/-- The loss, from its two arrays. -/
theorem loss_read (q n : FVec Ideal S4x64x1024 .f32) :
    Ref.loss q n ix0 = Ref.mse q n ix0 + ((1 / 4 : ℝ) : EReal) * Ref.mse n q ix0 := by
  rw [← word_quarter]
  rfl

/-- A share, from the code numbers. -/
theorem share_read (ix : IVec S4x1024x2 32) (g : Fin 2) (k : Fin 512) :
    Ref.share (F := Ideal) ix (ix2 g k) = Ideal.div (∑ b : Fin 4, ∑ t : Fin 1024, FloatOps.uitofp (F := Ideal) .f32
      (IntOp.cmpi .eq (ix (ix3 b t g)) (BitVec.ofNat 32 k.val))) ((4096 : ℝ) : EReal) := by
  have hx : ∀ (b : Fin 4) (t : Fin 1024) (h₁ : ((b.val * 1024 + t.val) * 2 + g.val) / 2048 < 4)
      (h₂ : ((b.val * 1024 + t.val) * 2 + g.val) / 2 % 1024 < 1024),
      (ix3 ⟨_, h₁⟩ ⟨_, h₂⟩ g : S4x1024x2.Idx) = ix3 b t g := fun b t h₁ h₂ => by
    have e₁ : (⟨_, h₁⟩ : Fin 4) = b := Fin.ext (by show _ / 2048 = b.val; omega)
    have e₂ : (⟨_, h₂⟩ : Fin 1024) = t := Fin.ext (by show _ / 2 % 1024 = t.val; omega)
    rw [e₁, e₂]
  pointwise [Ref.share]
  rw [sum_tokens]
  simp only [hx, word_tokens]

/-- The perplexity, from the shares. -/
theorem perp_read (p : FVec Ideal S2x512 .f32) (P : Fin 2 → Fin 512 → ℝ) (hp : ∀ g k, p (ix2 g k) = (P g k : EReal))
    (h0 : ∀ g k, 0 < P g k + tiny) :
    Ref.perp p ix0 = ((∑ g, Real.exp (-∑ k, P g k * Real.log (P g k + tiny)) : ℝ) : EReal) := by
  pointwise [Ref.perp]
  simp only [hp, word_tiny, ← EReal.coe_add, log_coe _ (h0 _ _), ← EReal.coe_mul, ← coe_sum, ← EReal.coe_neg,
    Ideal.exp_coe]

/-- A mean square over the elements. -/
theorem mse_apply {p q : FVec Ideal S4x64x1024 .f32} {P Q : Fin 4 → Fin 64 → Fin 1024 → ℝ}
    (hp : ∀ b c t, p (ix3 b c t) = (P b c t : EReal)) (hq : ∀ b c t, q (ix3 b c t) = (Q b c t : EReal)) :
    Ref.mse p q ix0 = ((∑ b, ∑ c, ∑ t, (P b c t - Q b c t) * (P b c t - Q b c t)) / 262144 : ℝ) := by
  pointwise [Ref.mse]
  simp only [hp, hq, ← EReal.coe_sub, ← EReal.coe_mul, ← coe_sum, word_elements]
  rw [div_coe _ _ (by norm_num)]

section Main

variable {I : Inputs} {a0 : FVec Ideal S4x1024x64 .f32} {a1 : FVec Ideal S512x2x32 .f32} {a2 : FVec Ideal S64x32x1 .f32}
  {a3 a4 : FVec Ideal S64 .f32} (H : I.Held a0 a1 a2 a3 a4)

include H

/-- The first result. -/
theorem out_apply (b : Fin 4) (t : Fin 1024) (c : Fin 64) :
    Ref.out (Ref.quantised a0 a1 a2 a3 a4) (Ref.tokens a0 a2 a3 a4) (ix3 b t c) = (I.quant b t c : EReal) := by
  rw [out_read, quantised_apply H, tokens_apply H, ← EReal.coe_sub, ← EReal.coe_add, sub_self, add_zero]

/-- The third result. -/
theorem loss_apply : Ref.loss (Ref.quantised a0 a1 a2 a3 a4) (Ref.tokens a0 a2 a3 a4) ix0 = (I.loss : EReal) := by
  have hq := quantised_apply H
  have hn := tokens_apply H
  have he : (∑ b, ∑ c, ∑ t, (I.quant b t c - I.tok b (grp c) t (pos c)) * (I.quant b t c - I.tok b (grp c) t (pos c)))
      = I.err := by
    unfold Inputs.err
    refine Finset.sum_congr rfl fun b _ => ?_
    rw [sum_channels]
    refine Finset.sum_congr rfl fun g _ => ?_
    unfold Model.err Model.total Inputs.quant
    rw [Finset.sum_comm]
    simp only [grp_chan, pos_chan]
    rfl
  rw [loss_read, mse_apply hq hn, mse_apply hn hq, ← EReal.coe_mul, ← EReal.coe_add]
  refine congrArg _ ?_
  have he' : (∑ b, ∑ c, ∑ t, (I.tok b (grp c) t (pos c) - I.quant b t c) * (I.tok b (grp c) t (pos c) - I.quant b t c))
      = I.err := by
    rw [← he]
    exact Finset.sum_congr rfl fun _ _ => Finset.sum_congr rfl fun _ _ => Finset.sum_congr rfl fun _ _ => by ring
  rw [he, he']
  unfold Inputs.loss
  ring

/-- A code's share of the tokens. -/
theorem share_apply (g : Fin 2) (k : Fin 512) :
    Ref.share (F := Ideal) (Ref.nearest a0 a1 a2 a3 a4) (ix2 g k) = ((I.uses g k / 4096 : ℝ) : EReal) := by
  have hs : ∀ b t, FloatOps.uitofp (F := Ideal) .f32 (IntOp.cmpi .eq (Ref.nearest a0 a1 a2 a3 a4 (ix3 b t g))
      (BitVec.ofNat 32 k.val)) = (indicator (k = code (I.book g) (I.tok b g t)) : EReal) := by
    intro b t
    rw [near_apply H]
    show (((BitVec.ofBool (BitVec.ofNat 32 (I.near b g t).val == BitVec.ofNat 32 k.val)).toNat : ℝ) : EReal) = _
    unfold indicator
    by_cases h : k = code (I.book g) (I.tok b g t)
    · rw [if_pos h, h]
      simp [Inputs.near]
    · have hne : (BitVec.ofNat 32 (I.near b g t).val == BitVec.ofNat 32 k.val) = false :=
        beq_eq_false_iff_ne.mpr fun e => h (ofNat_inj.mp e).symm
      rw [hne, if_neg h]
      simp
  rw [share_read]
  simp only [hs, ← coe_sum]
  rw [div_coe _ _ (by norm_num)]
  rfl

/-- The second result. -/
theorem perp_apply : Ref.perp (Ref.share (F := Ideal) (Ref.nearest a0 a1 a2 a3 a4)) ix0 = (I.ppl : EReal) := by
  have hp : ∀ g k, 0 < I.uses g k / 4096 + tiny := fun g k =>
    add_pos_of_nonneg_of_pos (div_nonneg (I.uses_nonneg g k) (by norm_num)) tiny_pos
  rw [perp_read _ _ (share_apply H) hp]
  rw [Fin.sum_univ_two]
  rfl

end Main

end Cert.RefRead

end
-- ==== Proof.Mask.lean ====
/- Where the first and the third result are compared: at tokens, or for inputs, clear of a tie between codes. -/
module

public import proofs.«01_k».proof.Proof.Gen.On_decided
public import proofs.«01_k».proof.Proof.RefRun
public import Idealize.ShloMosaic.Lib.Pointwise

@[expose] public section

set_option maxRecDepth 16384

noncomputable section

namespace Cert.Mask

open Idealize.ShloMosaic Cert.ReferenceIdeal Cert.ReferenceIdeal.Gen

section Defs

variable {F : FTy → Type} [FloatOps F]

/-- The least value over the codes. -/
def least (d : FVec F S512x4x1024x2 .f32) : FVec F S4x1024x2 .f32 :=
  Host.reduce FloatOps.minimumf d (constant S_ .f32 0x7F800000#32) reducesTo_S512x4x1024x2_S4x1024x2_d0 h_S_

/-- The values with those of the codes `i` taken out. -/
def others (i : IVec S4x1024x2 32) (d : FVec F S512x4x1024x2 .f32) : FVec F S512x4x1024x2 .f32 :=
  select (cmpi .eq (iotaInDim S512x4x1024x2 32 0)
      (broadcastInDim S512x4x1024x2 ![0, 1, 2, 3] On_decided.Facts.bcast_S1x4x1024x2_S512x4x1024x2_0_1_2_3
        (broadcastInDim ⟨4, ![1, 4, 1024, 2]⟩ ![1, 2, 3] On_decided.Facts.bcast_S4x1024x2_S1x4x1024x2_1_2_3 i)))
    (broadcastInDim S512x4x1024x2 ![] On_decided.Facts.bcast_S_S512x4x1024x2 (id (constant S_ .f32 0x7F800000#32))) d

/-- How far the second least value is above the least. -/
def gap (d : FVec F S512x4x1024x2 .f32) : FVec F S4x1024x2 .f32 := subf (least (others (Ref.argmin d) d)) (least d)

/-- Where a token's gap is at least 1/125000, at each of its channels. -/
def atToken (g : FVec F S4x1024x2 .f32) : IVec S4x1024x64 1 :=
  shapeCast S4x1024x64 (broadcastInDim S4x1024x2x32 ![0, 1, 2, 3] On_decided.Facts.bcast_S4x1024x2x1_S4x1024x2x32_0_1_2_3
    (broadcastInDim ⟨4, ![4, 1024, 2, 1]⟩ ![0, 1, 2] On_decided.Facts.bcast_S4x1024x2_S4x1024x2x1_0_1_2
      (cmpf .oge (mulf g (broadcastInDim S4x1024x2 ![] On_decided.Facts.bcast_S_S4x1024x2 (constant S_ .f32 0x47F42400#32)))
        (broadcastInDim S4x1024x2 ![] On_decided.Facts.bcast_S_S4x1024x2 (constant S_ .f32 0x3F800000#32)))))
    On_decided.Facts.shapeCasts_S4x1024x2x32_S4x1024x64

/-- Whether every token's is. -/
def everywhere (g : FVec F S4x1024x2 .f32) : IVec S_ 1 :=
  cmpf .oge (mulf (Host.reduce FloatOps.minimumf g (constant S_ .f32 0x7F800000#32)
      On_decided.Facts.reducesTo_S4x1024x2_S_d0_1_2 h_S_) (constant S_ .f32 0x47F42400#32)) (constant S_ .f32 0x3F800000#32)

/-- The second part of the condition. -/
theorem part2_eq (d : FVec F S512x4x1024x2 .f32) (l : FVec F S4x1024x2 .f32) :
    On_decided.fn_part2 d l = (atToken (subf l (least d)), constantI S_ 1 1#1, everywhere (subf l (least d))) := rfl

/-- The condition's argmin is the reference's. -/
theorem argmin_eq (d : FVec F S512x4x1024x2 .f32) : On_decided.fn_argmin d = Ref.argmin d := rfl

/-- The first part of it. -/
theorem part1_eq (a1 : FVec F S512x2x32 .f32) (a4 : FVec F S64 .f32) (v18 : FVec F S4x64x1024 .f32)
    (v19 : FVec F S1x64x1 .f32) : On_decided.fn_part1 a1 a4 v18 v19 =
      (fun d => (atToken (gap d), constantI S_ 1 1#1, everywhere (gap d))) (Ref.dist (addf (mulf v18
        (broadcastInDim S4x64x1024 ![0, 1, 2] On_decided.Facts.bcast_S1x64x1_S4x64x1024_0_1_2 v19))
        (broadcastInDim S4x64x1024 ![0, 1, 2] On_decided.Facts.bcast_S1x64x1_S4x64x1024_0_1_2
          (broadcastInDim S1x64x1 ![1] On_decided.Facts.bcast_S64_S1x64x1_1 a4))) a1) := rfl

/-- The whole condition, from the reference's tokens and distances. -/
theorem fn_eq (a0 : FVec F S4x1024x64 .f32) (a1 : FVec F S512x2x32 .f32) (a2 : FVec F S64x32x1 .f32)
    (a3 a4 : FVec F S64 .f32) : On_decided.fn a0 a1 a2 a3 a4 =
      (fun d => (atToken (gap d), constantI S_ 1 1#1, everywhere (gap d))) (Ref.dist (Ref.tokens a0 a2 a3 a4) a1) := rfl

end Defs

end Cert.Mask

end
-- ==== Proof.MaskRead.lean ====
/- What the conditions say where the distances are real: tokens clear of the other codes. -/
module

public import proofs.«01_k».proof.Proof.Mask
public import proofs.«01_k».proof.Proof.Whole
public import proofs.«01_k».proof.Proof.Least
public import Idealize.ShloMosaic.Lib.Pointwise

@[expose] public section

set_option maxRecDepth 16384

noncomputable section

namespace Cert.Mask

open Idealize.ShloMosaic Cert.ReferenceIdeal Cert.ReferenceIdeal.Gen

section Reads

open Cert.Model Cert.Least Cert.Whole

variable {d : FVec Ideal S512x4x1024x2 .f32} {b : Fin 4} {t : Fin 1024} {g : Fin 2} {f : Fin 512 → ℝ}
  (hd : ∀ k, d (ix4 k b t g) = (f k : EReal)) {k₀ : Fin 512} (h₀ : IsFirst f k₀)

include hd h₀

/-- The least distance. -/
theorem least_apply : least d (ix3 b t g) = (f k₀ : EReal) := by
  pointwise [least]
  simp only [hd, word_top]
  exact fold_min h₀

omit hd h₀ in
/-- The distances with one place's replaced by infinity. -/
theorem others_read (i : IVec S4x1024x2 32) (d : FVec Ideal S512x4x1024x2 .f32) (b : Fin 4) (t : Fin 1024) (g : Fin 2)
    (k : Fin 512) : others i d (ix4 k b t g)
      = Scalar.select (IntOp.cmpi .eq (BitVec.ofNat 32 k.val) (i (ix3 b t g))) ⊤ (d (ix4 k b t g)) := by
  have ht : id (constant (F := Ideal) S_ .f32 0x7F800000#32) ix0 = (⊤ : EReal) := word_top
  pointwise [others]
  rw [ht]

/-- The first least code's number taken out. -/
theorem others_apply {i : IVec S4x1024x2 32} (hi : i (ix3 b t g) = BitVec.ofNat 32 k₀.val) (k : Fin 512) :
    others i d (ix4 k b t g) = if k = k₀ then ⊤ else (f k : EReal) := by
  rw [others_read, hi, hd]
  show Scalar.select (BitVec.ofBool (BitVec.ofNat 32 k.val == BitVec.ofNat 32 k₀.val)) _ _ = _
  by_cases h : k = k₀
  · subst h; simp [Scalar.select]
  · have hne : (BitVec.ofNat 32 k.val == BitVec.ofNat 32 k₀.val) = false :=
      beq_eq_false_iff_ne.mpr fun e => h (ofNat_inj.mp e)
    rw [hne, if_neg h]
    simp [Scalar.select]

omit hd h₀ in
/-- The least of an array's distances, as a fold. -/
theorem least_read (d : FVec Ideal S512x4x1024x2 .f32) (b : Fin 4) (t : Fin 1024) (g : Fin 2) :
    least d (ix3 b t g) = Finset.univ.fold min (⊤ : EReal) fun k => d (ix4 k b t g) := by
  pointwise [least]
  rw [word_top]

/-- The second least distance. -/
theorem second_apply {i : IVec S4x1024x2 32} (hi : i (ix3 b t g) = BitVec.ofNat 32 k₀.val) :
    least (others i d) (ix3 b t g) = second f k₀ := by
  rw [least_read]
  exact Finset.fold_congr fun k _ => others_apply hd h₀ hi k

/-- The gap, given the nearest code's place. -/
theorem gap_of {i : IVec S4x1024x2 32} (hi : i (ix3 b t g) = BitVec.ofNat 32 k₀.val) :
    subf (least (others i d)) (least d) (ix3 b t g) = second f k₀ - (f k₀ : EReal) := by
  have h1 := second_apply hd h₀ hi
  have h2 := least_apply hd h₀
  have e : ∀ x y : FVec Ideal S4x1024x2 .f32, subf x y (ix3 b t g) = x (ix3 b t g) - y (ix3 b t g) := fun _ _ => rfl
  rw [e, h1, h2]

/-- The nearest code's place. -/
theorem argmin_read : Ref.argmin d (ix3 b t g) = BitVec.ofNat 32 k₀.val := by
  have h := argmin_apply d b t g f (fun k => by rw [← ix4_eq_valueIdx, hd]) h₀
  rwa [← ix3_eq_valueIdx] at h

/-- The gap: the second least distance less the least. -/
theorem gap_apply : gap d (ix3 b t g) = second f k₀ - (f k₀ : EReal) := by
  unfold gap
  exact gap_of hd h₀ (argmin_read hd h₀)

omit hd h₀ in
/-- A marked element's gap is at least the bound. -/
theorem atToken_read (x : FVec Ideal S4x1024x2 .f32) (b : Fin 4) (t : Fin 1024) (c : Fin 64)
    (h : atToken x (ix3 b t c) = 1#1) : ((1 : ℝ) : EReal) ≤ x (ix3 b t (grp c)) * ((125000 : ℝ) : EReal) := by
  pointwise [atToken] at h
  rw [word_clear] at h
  rw [EReal.coe_one]
  unfold grp
  by_contra hn
  rw [decide_eq_false hn] at h
  exact absurd h (by decide)

omit hd h₀ in
/-- Where the whole is marked, every gap is. -/
theorem everywhere_read (x : FVec Ideal S4x1024x2 .f32) (h : everywhere x ix0 = 1#1) (b : Fin 4) (t : Fin 1024)
    (g : Fin 2) : ((1 : ℝ) : EReal) ≤ x (ix3 b t g) * ((125000 : ℝ) : EReal) := by
  pointwise [everywhere] at h
  rw [word_clear] at h
  rw [EReal.coe_one]
  by_contra hn
  rw [decide_eq_false fun h' => hn (h'.trans (mul_le_mul_of_nonneg_right
    ((Finset.fold_min_le _).mpr (.inr ⟨(b, t, g), Finset.mem_univ _, le_rfl⟩))
    (by exact_mod_cast (by norm_num : (0 : ℝ) ≤ 125000))))] at h
  exact absurd h (by decide)

/-- A token marked is clear of the other codes, -/
theorem clear_of_token (c : Fin 64) (hc : grp c = g) (h : atToken (gap d) (ix3 b t c) = 1#1) (j : Fin 512) (hj : j ≠ k₀) :
    f k₀ + 1 / 125000 ≤ f j := by
  have h1 := atToken_read _ b t c h
  rw [hc, gap_apply hd h₀] at h1
  exact clear_of_gap f k₀ h1 j hj

/-- and if the whole is marked, every token is. -/
theorem clear_of_everywhere (h : everywhere (gap d) ix0 = 1#1) (j : Fin 512) (hj : j ≠ k₀) :
    f k₀ + 1 / 125000 ≤ f j := by
  have h1 := everywhere_read _ h b t g
  rw [gap_apply hd h₀] at h1
  exact clear_of_gap f k₀ h1 j hj

end Reads

end Cert.Mask

end
-- ==== Proof.Agree.lean ====
/- Where the arguments hold real numbers and the conditions hold, the kernel's three results are the reference's. -/
module

public import proofs.«01_k».proof.Proof.KernelRead
public import proofs.«01_k».proof.Proof.Layout
public import proofs.«01_k».proof.Proof.RefRead
public import proofs.«01_k».proof.Proof.MaskRead

@[expose] public section

set_option maxRecDepth 16384

noncomputable section

namespace Cert.Agree

open Idealize.ShloMosaic Cert.Model Cert.Whole Cert.KernelRun Cert.KernelIdeal Cert.KernelIdeal.Gen

/-- Every index of the first result names a batch entry, a token and a channel. -/
theorem ix3_eta (i : S4x1024x64.Idx) : i = ix3 (i 0) (i 1) (i 2) :=
  funext fun a => by match a with | 0 => rfl | 1 => rfl | 2 => rfl

/-- An array without axes has one index. -/
theorem ix0_eta (i : S_.Idx) : i = ix0 := funext fun a => a.elim0

variable {I : Inputs} {a0 : FVec Ideal S4x1024x64 .f32} {a1 : FVec Ideal S512x2x32 .f32} {a2 : FVec Ideal S64x32x1 .f32}
  {a3 a4 : FVec Ideal S64 .f32} (H : I.Held a0 a1 a2 a3 a4)

/-- The reference's first result, -/
def refOut (a0 : FVec Ideal S4x1024x64 .f32) (a1 : FVec Ideal S512x2x32 .f32) (a2 : FVec Ideal S64x32x1 .f32)
    (a3 a4 : FVec Ideal S64 .f32) : FVec Ideal S4x1024x64 .f32 :=
  Ref.out (Ref.quantised a0 a1 a2 a3 a4) (Ref.tokens a0 a2 a3 a4)

/-- its second -/
def refPerp (a0 : FVec Ideal S4x1024x64 .f32) (a1 : FVec Ideal S512x2x32 .f32) (a2 : FVec Ideal S64x32x1 .f32)
    (a3 a4 : FVec Ideal S64 .f32) : FVec Ideal S_ .f32 := Ref.perp (Ref.share (F := Ideal) (Ref.nearest a0 a1 a2 a3 a4))

/-- and its third. -/
def refLoss (a0 : FVec Ideal S4x1024x64 .f32) (a1 : FVec Ideal S512x2x32 .f32) (a2 : FVec Ideal S64x32x1 .f32)
    (a3 a4 : FVec Ideal S64 .f32) : FVec Ideal S_ .f32 :=
  Ref.loss (Ref.quantised a0 a1 a2 a3 a4) (Ref.tokens a0 a2 a3 a4)

include H

/-- The kernel's windows hold the inputs that the arguments hold. -/
theorem windows : KernelRead.Windows I a0 (books a1) (weights a2) (params a3) (params a4) where
  x := H.x
  e g k c := (books_apply a1 g k c).trans (H.e k g c)
  w g o c := (weights_apply a2 g o c).trans (H.w _ c)
  gw g o := (params_apply a3 g o).trans (H.gw _)
  gb g o := (params_apply a4 g o).trans (H.gb _)

/-- A marked element's token is clear of a tie. -/
theorem clear_at (b : Fin 4) (t : Fin 1024) (c : Fin 64) (h : (On_decided.fn a0 a1 a2 a3 a4).1 (ix3 b t c) = 1#1) :
    Clear (I.book (grp c)) (I.tok b (grp c) t) := by
  rw [Mask.fn_eq] at h
  exact Mask.clear_of_token (fun k => RefRead.dist_apply H k b t (grp c)) (code_dist _ _) c rfl h

/-- Where the whole is marked, every token is. -/
theorem clear_all (h : (On_decided.fn a0 a1 a2 a3 a4).2.2 ix0 = 1#1) (b : Fin 4) (g : Fin 2) (t : Fin 1024) :
    Clear (I.book g) (I.tok b g t) := by
  rw [Mask.fn_eq] at h
  exact Mask.clear_of_everywhere (fun k => RefRead.dist_apply H k b t g) (code_dist _ _) h

/-- The first result, at the marked elements. -/
theorem out5 (i : S4x1024x64.Idx) (h : (On_decided.fn a0 a1 a2 a3 a4).1 i = 1#1) :
    out0_5 (F := Ideal) a0 (books a1) (weights a2) (params a3) (params a4) i
      = refOut a0 a1 a2 a3 a4 i := by
  rw [ix3_eta i] at h ⊢
  exact (KernelRead.out5_apply (windows H) _ _ _ (clear_at H _ _ _ h)).trans (RefRead.out_apply H _ _ _).symm

/-- The second result. -/
theorem out6 (i : S_.Idx) : shapeCast S_ (out0_6 (F := Ideal) a0 (books a1) (weights a2) (params a3) (params a4)) shapeCasts_S1x1_S_ i
      = refPerp a0 a1 a2 a3 a4 i := by
  rw [ix0_eta i]
  exact (KernelRun.cell_apply _).trans ((KernelRead.out6_apply (windows H)).trans (RefRead.perp_apply H).symm)

/-- The third result, where it is marked. -/
theorem out7 (i : S_.Idx) (h : (On_decided.fn a0 a1 a2 a3 a4).2.2 i = 1#1) :
    shapeCast S_ (out0_7 (F := Ideal) a0 (books a1) (weights a2) (params a3) (params a4)) shapeCasts_S1x1_S_ i
      = refLoss a0 a1 a2 a3 a4 i := by
  rw [ix0_eta i] at h ⊢
  exact (KernelRun.cell_apply _).trans ((KernelRead.out7_apply (windows H) (clear_all H h)).trans (RefRead.loss_apply H).symm)

end Cert.Agree

end
-- ==== Proof.Finite.lean ====
/- Arguments that the precondition allows hold real numbers. -/
module

public import proofs.«01_k».proof.Proof.Gen.Pre_finite
public import proofs.«01_k».proof.Proof.Whole

@[expose] public section

noncomputable section

namespace Cert.Finite

open Idealize.ShloMosaic Cert.Model Cert.Whole Cert.Pre_finite

/-- An absolute value below infinity is that of a real number. -/
theorem coe_toReal {s : Shape} (a : FVec Ideal s .f32) (hb : S_.BroadcastsInDim s (![] : Fin 0 → Fin s.rank))
    (h : cmpf .olt (Host.absf a) (broadcastInDim s ![] hb (constant S_ .f32 0x7F800000#32)) = fun _ => 1#1) (i : s.Idx) :
    a i = (EReal.toReal (a i) : EReal) := by
  have h1 := congrFun h i
  change BitVec.ofBool (decide ((max (a i) (-(a i)) : EReal) < Ideal.ofBits .f32 0x7F800000#32)) = 1#1 at h1
  rw [word_top] at h1
  refine (EReal.coe_toReal (fun ht => ?_) fun hb => ?_).symm
  · rw [ht] at h1
    simp at h1
  · rw [hb] at h1
    simp at h1

/-- The arguments as real functions. -/
def inputs (a0 : FVec Ideal S4x1024x64 .f32) (a1 : FVec Ideal S512x2x32 .f32) (a2 : FVec Ideal S64x32x1 .f32)
    (a3 a4 : FVec Ideal S64 .f32) : Inputs where
  x b t c := EReal.toReal (a0 (ix3 b t c))
  e k g c := EReal.toReal (a1 (ix3 k g c))
  w o c := EReal.toReal (a2 (ix3 o c 0))
  gw o := EReal.toReal (a3 (ix1 o))
  gb o := EReal.toReal (a4 (ix1 o))

/-- Arguments that the precondition allows hold real inputs. -/
theorem held {a0 : FVec Ideal S4x1024x64 .f32} {a1 : FVec Ideal S512x2x32 .f32} {a2 : FVec Ideal S64x32x1 .f32}
    {a3 a4 : FVec Ideal S64 .f32} (h0 : (fn a0 a1 a2 a3 a4).1 = fun _ => 1#1) (h1 : (fn a0 a1 a2 a3 a4).2.1 = fun _ => 1#1)
    (h2 : (fn a0 a1 a2 a3 a4).2.2.1 = fun _ => 1#1) (h3 : (fn a0 a1 a2 a3 a4).2.2.2.1 = fun _ => 1#1)
    (h4 : (fn a0 a1 a2 a3 a4).2.2.2.2 = fun _ => 1#1) : (inputs a0 a1 a2 a3 a4).Held a0 a1 a2 a3 a4 where
  x _ _ _ := coe_toReal a0 _ h0 _
  e _ _ _ := coe_toReal a1 _ h1 _
  w _ _ := coe_toReal a2 _ h2 _
  gw _ := coe_toReal a3 _ h3 _
  gb _ := coe_toReal a4 _ h4 _

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Agree
public import proofs.«01_k».proof.Proof.Finite
public import proofs.«01_k».proof.Proof.Gen.Pre_finite
public import proofs.«01_k».proof.Proof.Gen.On_decided
public import Idealize.ShloMosaic.Adequacy
public import Idealize.ShloMosaic.Init

@[expose] public section

noncomputable section

namespace Cert.Proof

open Idealize.ShloMosaic Idealize.SL.Sem Cert.Kernel

/-- The kernel leaves its arguments unchanged and every semaphore at zero. -/
theorem frame_k : Cert.quiescent_Kernel := fun m ρ _ => Cert.Kernel.Gen.frame m ρ

/-- So does the idealized kernel. -/
theorem frame_ki : Cert.quiescent_KernelIdeal := fun m ρ _ => Cert.KernelIdeal.Gen.frame m ρ

/-- So does the idealized reference. -/
theorem frame_ri : Cert.quiescent_ReferenceIdeal := by
  intro m ρ _
  exact (θ_run Cert.ReferenceIdeal.defs _ _).mono (fun r h => ⟨fun c => (h c).2.2.2,
      Idealize.ShloMosaic.sem_eq_zero_of_no_sems (by decide) r.2⟩)
    (Cert.Ref.run (F := Ideal) m ρ)

/-- And under the precondition. -/
theorem frame_ri_finite : Cert.quiescent_ReferenceIdeal_pre_finite := fun m ρ _ => frame_ri m ρ trivial

/-- What a function of the five arguments gives of the kernel's. -/
abbrev ofK {β : Type} (f : FVec Ideal Cert.KernelIdeal.S4x1024x64 .f32 → FVec Ideal Cert.KernelIdeal.S512x2x32 .f32 →
    FVec Ideal Cert.KernelIdeal.S64x32x1 .f32 → FVec Ideal Cert.KernelIdeal.S64 .f32 → FVec Ideal Cert.KernelIdeal.S64 .f32 → β)
    (m : (ℓ : Loc Cert.KernelIdeal.nD Cert.KernelIdeal.τ Cert.KernelIdeal.sig) → Buf (Elt Ideal) ℓ)
    (c : Dev Cert.KernelIdeal.nD) : β :=
  f (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))

/-- A function of five equal arguments. -/
theorem congr_five {A B C D β : Type} (f : A → B → C → D → D → β) {a a' : A} {b b' : B} {c c' : C} {d d' e e' : D}
    (ha : a' = a) (hb : b' = b) (hc : c' = c) (hd : d' = d) (he : e' = e) : f a' b' c' d' e' = f a b c d e := by
  subst ha hb hc hd he
  rfl

/-- Finite arguments hold real numbers. -/
theorem held {m : (ℓ : Loc Cert.KernelIdeal.nD Cert.KernelIdeal.τ Cert.KernelIdeal.sig) → Buf (Elt Ideal) ℓ}
    (hp : Cert.Pre_KernelIdeal_finite m) (c : Dev Cert.KernelIdeal.nD) :
    ofK (fun a0 a1 a2 a3 a4 => (Cert.Finite.inputs a0 a1 a2 a3 a4).Held a0 a1 a2 a3 a4) m c :=
  Cert.Finite.held (hp c).1 (hp c).2.1 (hp c).2.2.1 (hp c).2.2.2.1 (hp c).2.2.2.2

/-- From finite arguments, the idealized kernel and the idealized reference end with the same results: the quantised
    tokens at every token that is clear of a tie, the perplexity, and the loss where every token is clear. -/
theorem algebraic : Cert.algebraic_KernelIdeal_ReferenceIdeal_on_decided_pre_finite := by
  intro m g m' g' hp ha
  refine ⟨ofK Cert.Agree.refOut m, ofK Cert.Agree.refPerp m, ofK Cert.Agree.refLoss m,
    (θ_run Cert.KernelIdeal.defs _ _).mono (fun r h c => ?_) (Cert.KernelRun.run (F := Ideal) m g),
    (θ_run Cert.ReferenceIdeal.defs _ _).mono (fun r h c => ?_) (Cert.Ref.run (F := Ideal) m' g')⟩
  · have h5 := Cert.Agree.out5 (held hp c)
    have h6 := Cert.Agree.out6 (held hp c)
    have h7 := Cert.Agree.out7 (held hp c)
    refine ⟨fun i hi => ?_, fun i _ => ?_, fun i hi => ?_, (h c).2⟩
    · rw [(h c).1.1]
      exact h5 i hi
    · rw [(h c).1.2.1]
      exact h6 i
    · rw [(h c).1.2.2]
      exact h7 i hi
  · obtain ⟨e0, e1, e2, e3, e4⟩ := ha c
    exact ⟨fun i _ => congrFun ((h c).1.trans (congr_five Cert.Agree.refOut e0 e1 e2 e3 e4)) i,
      fun i _ => congrFun ((h c).2.1.trans (congr_five Cert.Agree.refPerp e0 e1 e2 e3 e4)) i,
      fun i _ => congrFun ((h c).2.2.1.trans (congr_five Cert.Agree.refLoss e0 e1 e2 e3 e4)) i, (h c).2.2.2⟩

/-- The claims. -/
theorem claim : Cert.Claim := ⟨Cert.Kernel.Gen.facts, Cert.KernelIdeal.Gen.facts, Cert.ReferenceIdeal.Gen.facts,
  Cert.Pre_finite.Gen.facts, Cert.On_decided.Gen.facts,
  frame_k, frame_ki, fun m ρ _ => Cert.KernelIdeal.Gen.frame m ρ, frame_ri, frame_ri_finite, trivial, algebraic⟩

end Cert.Proof

end
